-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 2048]⟩ ⟨2, ![8192, 2048]⟩ (Layout.meshBlock [2, 2] ![[0], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048 : Shape := ⟨1, ![2048]⟩
abbrev S_ : Shape := ⟨0, ![]⟩
abbrev S1 : Shape := ⟨1, ![1]⟩
abbrev S2x2048 : Shape := ⟨2, ![2, 2048]⟩
abbrev S512x2048 : Shape := ⟨2, ![512, 2048]⟩
abbrev S3x2x2048 : Shape := ⟨3, ![3, 2, 2048]⟩
abbrev S3 : Shape := ⟨1, ![3]⟩
abbrev S512 : Shape := ⟨1, ![512]⟩
abbrev S512x1 : Shape := ⟨2, ![512, 1]⟩
abbrev S1x2048 : Shape := ⟨2, ![1, 2048]⟩
abbrev S1x2x2048 : Shape := ⟨3, ![1, 2, 2048]⟩

abbrev nBuf : Space → Nat
  | .hbm => 10
  | .vmem => 7
  | .smem => 1
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S2x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2x2048, .f32⟩
  | .local _ .vmem, ⟨5, _⟩ => ⟨S2x2048, .f32⟩
  | .local _ .vmem, ⟨6, _⟩ => ⟨S3x2x2048, .f32⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v6 : Ref sig .tc := ⟨.hbm, 9, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev barrier0 : Sem sig := 0

abbrev nD : Nat := 4
abbrev τ : Topo := Topo.v7x

variable {F : FTy → Type} [FloatOps F]

abbrev grid0 : Pipeline.Grid := ⟨1, ![4], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_6 : BitVec 32 := 0#32
  let v12 : BitVec 1 := Scalar.cmpi .ne v11 c0_i32_6
  v12

def k0_dev1 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v63 : BitVec 32 := Scalar.muli v2 c2_i32_25
  let v64 : BitVec 32 := Scalar.addi c0_i32_26 v63
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_27 : BitVec 32 := 1#32
  let v65 : BitVec 32 := Scalar.muli v6 c1_i32_27
  let v66 : BitVec 32 := Scalar.addi v64 v65
  v66.toNat
def k0_dev2 (d0 : Dev nD) : Nat :=
  let c0_i32_30 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_29 : BitVec 32 := 2#32
  let v67 : BitVec 32 := Scalar.muli v7 c2_i32_29
  let v68 : BitVec 32 := Scalar.addi c0_i32_30 v67
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_31 : BitVec 32 := 1#32
  let v69 : BitVec 32 := Scalar.muli v5 c1_i32_31
  let v70 : BitVec 32 := Scalar.addi v68 v69
  v70.toNat
def k0_dev3 (d0 : Dev nD) : Nat :=
  let c0_i32_34 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_33 : BitVec 32 := 2#32
  let v71 : BitVec 32 := Scalar.muli v8 c2_i32_33
  let v72 : BitVec 32 := Scalar.addi c0_i32_34 v71
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_35 : BitVec 32 := 1#32
  let v73 : BitVec 32 := Scalar.muli v9 c1_i32_35
  let v74 : BitVec 32 := Scalar.addi v72 v73
  v74.toNat
def k0_cond2 (i : grid0.Coords) : BitVec 1 :=
  let arg0 : BitVec 32 := BitVec.ofNat 32 (i 0).val
  let c3_i32 : BitVec 32 := 3#32
  let v55 : BitVec 1 := Scalar.cmpi .eq arg0 c3_i32
  let v56 : BitVec 32 := Scalar.extui v55
  let c0_i32_20 : BitVec 32 := 0#32
  let v57 : BitVec 1 := Scalar.cmpi .ne v56 c0_i32_20
  v57

def k0_dev4 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v59 : BitVec 32 := Scalar.muli v2 c2_i32_25
  let v60 : BitVec 32 := Scalar.addi c0_i32_26 v59
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_27 : BitVec 32 := 1#32
  let v61 : BitVec 32 := Scalar.muli v6 c1_i32_27
  let v62 : BitVec 32 := Scalar.addi v60 v61
  v62.toNat
def k0_dev5 (d0 : Dev nD) : Nat :=
  let c0_i32_34 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_33 : BitVec 32 := 2#32
  let v69 : BitVec 32 := Scalar.muli v7 c2_i32_33
  let v70 : BitVec 32 := Scalar.addi c0_i32_34 v69
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_35 : BitVec 32 := 1#32
  let v71 : BitVec 32 := Scalar.muli v5 c1_i32_35
  let v72 : BitVec 32 := Scalar.addi v70 v71
  v72.toNat
def k0_dev6 (d0 : Dev nD) : Nat :=
  let c0_i32_42 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_41 : BitVec 32 := 2#32
  let v79 : BitVec 32 := Scalar.muli v8 c2_i32_41
  let v80 : BitVec 32 := Scalar.addi c0_i32_42 v79
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_43 : BitVec 32 := 1#32
  let v81 : BitVec 32 := Scalar.muli v9 c1_i32_43
  let v82 : BitVec 32 := Scalar.addi v80 v81
  v82.toNat
def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2x2048 : Shape := ⟨2, ![2, 2048]⟩

abbrev nBuf : Space → Nat
  | .hbm => 61
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1, .bf16⟩
  | .hbm, ⟨11, _⟩ => ⟨S_, .i32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .bf16⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .bf16⟩
  | .hbm, ⟨35, _⟩ => ⟨S8192x1, .bf16⟩
  | .hbm, ⟨36, _⟩ => ⟨S8192x1, .bf16⟩
  | .hbm, ⟨37, _⟩ => ⟨S_, .bf16⟩
  | .hbm, ⟨38, _⟩ => ⟨S8192x1, .bf16⟩
  | .hbm, ⟨39, _⟩ => ⟨S8192x1, .bf16⟩
  | .hbm, ⟨40, _⟩ => ⟨S8192x1, .bf16⟩
  | .hbm, ⟨41, _⟩ => ⟨S_, .bf16⟩
  | .hbm, ⟨42, _⟩ => ⟨S8192x1, .bf16⟩
  | .hbm, ⟨43, _⟩ => ⟨S8192x1, .bf16⟩
  | .hbm, ⟨44, _⟩ => ⟨S8192x2048, .bf16⟩
  | .hbm, ⟨45, _⟩ => ⟨S8192x2048, .bf16⟩
  | .hbm, ⟨46, _⟩ => ⟨S8192x2048, .bf16⟩
  | .hbm, ⟨47, _⟩ => ⟨S8192x2048, .bf16⟩
  | .hbm, ⟨48, _⟩ => ⟨S8192x2048, .bf16⟩
  | .hbm, ⟨49, _⟩ => ⟨S8192x2048, .f32⟩
  | .hbm, ⟨50, _⟩ => ⟨S_, .f32⟩
  | .hbm, ⟨51, _⟩ => ⟨S2048, .f32⟩
  | .hbm, ⟨52, _⟩ => ⟨S2048, .bf16⟩
  | .hbm, ⟨53, _⟩ => ⟨S8192x2048, .f32⟩
  | .hbm, ⟨54, _⟩ => ⟨S_, .f32⟩
  | .hbm, ⟨55, _⟩ => ⟨S2048, .f32⟩
  | .hbm, ⟨56, _⟩ => ⟨S2048, .bf16⟩
  | .hbm, ⟨57, _⟩ => ⟨S1x2048, .bf16⟩
  | .hbm, ⟨58, _⟩ => ⟨S1x2048, .bf16⟩
  | .hbm, ⟨59, _⟩ => ⟨S2x2048, .bf16⟩
  | .hbm, ⟨60, _⟩ => ⟨S2x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_call0_cst_0 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_cst_1 : Ref sig .tc := ⟨.hbm, 23, rfl⟩
abbrev main_call0_v9 : Ref sig .tc := ⟨.hbm, 24, rfl⟩
abbrev main_call0_cst_2 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst_3 : Ref sig .tc := ⟨.hbm, 31, rfl⟩
abbrev main_call0_v15 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_2 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩

abbrev nD : Nat := 1
abbrev τ : Topo := Topo.v7x

variable {F : FTy → Type} [FloatOps F]
-- ==== Proof.Slots.lean ====
/-
# The receive buffer, slot by slot

The kernel's receive buffer holds three slots of `2 × 2048`, one for each of the other three devices.
A copy lands in one slot, through the view the kernel takes of it (slice, then the leading axis dropped).
This module says which elements a slot has, cuts the buffer into its three slots and joins them again,
and says what a landing leaves in a slot.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.Stage

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The other devices -/

/-- The peer a device meets through slot `j`: across `x`, across `y`, across both axes. -/
def pr : Fin 3 → Dev nD → Dev nD
  | 0 => ![1, 0, 3, 2]
  | 1 => ![2, 3, 0, 1]
  | 2 => ![3, 2, 1, 0]

/-- Each of the three pairings is its own inverse. -/
theorem pr_pr (j : Fin 3) (c : Dev nD) : pr j (pr j c) = c := by revert j c; decide

/-- The pairing as a permutation of the devices. -/
def swap (j : Fin 3) : Dev nD ≃ Dev nD := ⟨pr j, pr j, pr_pr j, pr_pr j⟩

/-- The devices the kernel computes for its signals and its copies. -/
theorem dev1_eq (i : grid0.Coords) (h : k0_cond1 i = 1#1) (c : Dev nD) : (⟨k0_dev1 c, k0_dev1_lt i c h⟩ : Dev nD) = pr 0 c :=
  Fin.ext ((k0_dev1_eq c).trans (by revert c; decide))
theorem dev2_eq (i : grid0.Coords) (h : k0_cond1 i = 1#1) (c : Dev nD) : (⟨k0_dev2 c, k0_dev2_lt i c h⟩ : Dev nD) = pr 1 c :=
  Fin.ext ((k0_dev2_eq c).trans (by revert c; decide))
theorem dev3_eq (i : grid0.Coords) (h : k0_cond1 i = 1#1) (c : Dev nD) : (⟨k0_dev3 c, k0_dev3_lt i c h⟩ : Dev nD) = pr 2 c :=
  Fin.ext ((k0_dev3_eq c).trans (by revert c; decide))
theorem dev4_eq (i : grid0.Coords) (h : k0_cond2 i = 1#1) (c : Dev nD) : (⟨k0_dev4 c, k0_dev4_lt i c h⟩ : Dev nD) = pr 0 c :=
  Fin.ext ((k0_dev4_eq c).trans (by revert c; decide))
theorem dev5_eq (i : grid0.Coords) (h : k0_cond2 i = 1#1) (c : Dev nD) : (⟨k0_dev5 c, k0_dev5_lt i c h⟩ : Dev nD) = pr 1 c :=
  Fin.ext ((k0_dev5_eq c).trans (by revert c; decide))
theorem dev6_eq (i : grid0.Coords) (h : k0_cond2 i = 1#1) (c : Dev nD) : (⟨k0_dev6 c, k0_dev6_lt i c h⟩ : Dev nD) = pr 2 c :=
  Fin.ext ((k0_dev6_eq c).trans (by revert c; decide))

/-! ## The buffers -/

/-- The running sum, and the receive buffer. -/
abbrev accM : Memref sig .tc .vmem S2x2048 .f32 := Memref.whole cc0_scratch0
abbrev comM : Memref sig .tc .vmem S3x2x2048 .f32 := Memref.whole cc0_scratch1

theorem slot_inb (j : Fin 3) : ∀ a, (![j.val, 0, 0] : Fin 3 → ℕ) a + S1x2x2048.size a ≤ S3x2x2048.size a := by
  revert j; decide

/-- Slot `j` of the receive buffer, as the copies name it. -/
abbrev slotM (j : Fin 3) : Memref sig .tc .vmem S2x2048 .f32 :=
  (comM.slice (Rect.unit (s := S3x2x2048) ![j.val, 0, 0] S1x2x2048.size (slot_inb j)) (fun _ => rfl)).squeeze S2x2048 squeezes_S1x2x2048_S2x2048

/-- The view of slot 0, 1, 2 as printed is that view. -/
theorem slot0_eq : ((comM.slice (Rect.unit (s := S3x2x2048) ![0, 0, 0] S1x2x2048.size inb_S3x2x2048_S1x2x2048_0_0_0) (fun _ => rfl)).squeeze S2x2048 squeezes_S1x2x2048_S2x2048) = slotM 0 := rfl
theorem slot1_eq : ((comM.slice (Rect.unit (s := S3x2x2048) ![1, 0, 0] S1x2x2048.size inb_S3x2x2048_S1x2x2048_1_0_0) (fun _ => rfl)).squeeze S2x2048 squeezes_S1x2x2048_S2x2048) = slotM 1 := rfl
theorem slot2_eq : ((comM.slice (Rect.unit (s := S3x2x2048) ![2, 0, 0] S1x2x2048.size inb_S3x2x2048_S1x2x2048_2_0_0) (fun _ => rfl)).squeeze S2x2048 squeezes_S1x2x2048_S2x2048) = slotM 2 := rfl

abbrev accLoc (c : Dev nD) : Loc nD τ sig := accM.view.loc (c : Thread nD τ)
abbrev comLoc (c : Dev nD) : Loc nD τ sig := comM.view.loc (c : Thread nD τ)

/-- The elements of slot `j`: those whose first coordinate is `j`. -/
def slotSet (j : Fin 3) : Finset S3x2x2048.Idx := Finset.univ.filter fun i => (i 0).val = j.val

/-- The index of the receive buffer at slot `j`, entry `x`. -/
def at3 (j : Fin 3) (x : S2x2048.Idx) : S3x2x2048.Idx := Fin.cons j x

theorem slot_emb (j : Fin 3) (x : S2x2048.Idx) : ((slotM j).view.emb x : S3x2x2048.Idx) = at3 j x := by
  show (comM.view.emb ((Rect.unit (s := S3x2x2048) ![j.val, 0, 0] S1x2x2048.size (slot_inb j)).emb (Shape.reshapeEquiv squeezes_S1x2x2048_S2x2048.numel_eq x)) : S3x2x2048.Idx) = _
  rw [Shape.reshapeEquiv_cons_one]
  funext a
  apply Fin.ext
  match a with
  | ⟨0, _⟩ => show j.val + 1 * 0 = j.val; omega
  | ⟨1, _⟩ => show 0 + 1 * (x 0).val = (x 0).val; omega
  | ⟨2, _⟩ => show 0 + 1 * (x 1).val = (x 1).val; omega

theorem at3_tail (i : S3x2x2048.Idx) : at3 (i 0) (Fin.tail i) = i := Fin.cons_self_tail i

theorem mem_slotSet {j : Fin 3} {i : S3x2x2048.Idx} : i ∈ slotSet j ↔ i 0 = j := by
  unfold slotSet
  rw [Finset.mem_filter]
  exact ⟨fun h => Fin.ext h.2, fun h => ⟨Finset.mem_univ _, congrArg Fin.val h⟩⟩

theorem slot_set (j : Fin 3) : ((slotM j).view.set : Finset S3x2x2048.Idx) = slotSet j := by
  ext i
  rw [mem_slotSet]
  constructor
  · intro h
    obtain ⟨x, _, hx⟩ := Finset.mem_map.mp h
    have h1 : at3 j x = i := (slot_emb j x).symm.trans hx
    rw [← h1]; rfl
  · intro h
    refine Finset.mem_map.mpr ⟨Fin.tail i, Finset.mem_univ _, ?_⟩
    exact (slot_emb j (Fin.tail i)).trans (by rw [← h]; exact at3_tail i)

theorem slot_disjoint (j j' : Fin 3) (h : j ≠ j') : Disjoint (slotSet j) (slotSet j') :=
  Finset.disjoint_left.mpr fun i hi hi' => h ((mem_slotSet.mp hi).symm.trans (mem_slotSet.mp hi'))

theorem slot_cover : Finset.univ.biUnion slotSet = (Finset.univ : Finset S3x2x2048.Idx) := by
  ext i
  simp only [Finset.mem_biUnion, Finset.mem_univ, true_and, iff_true]
  exact ⟨i 0, mem_slotSet.mpr rfl⟩

/-! ## What lands -/

/-- The receive buffer of device `c` once each peer's `2 × 2048` array has landed in its slot. -/
def gath (tot : Dev nD → S2x2048.Idx → Elt F .f32) (c : Dev nD) : S3x2x2048.Idx → Elt F .f32 :=
  fun i => tot (pr (i 0) c) (Fin.tail i)

/-- A copy of the whole array of peer `pr j c` into slot `j` leaves there what `gath` says. -/
theorem landed (tot : Dev nD → S2x2048.Idx → Elt F .f32) (j : Fin 3) (c : Dev nD)
    (fd : S3x2x2048.Idx → Elt F .f32) (i : S3x2x2048.Idx) (hi : i ∈ (slotM j).view.set) :
    (slotM j).view.write (Elt F) fd (tot (pr j c)) Finset.univ i = gath tot c i := by
  obtain ⟨x, _, rfl⟩ := Finset.mem_map.mp hi
  rw [View.write_emb_of_mem (h := Finset.mem_univ x)]
  show _ = gath tot c ((slotM j).view.emb x)
  rw [slot_emb]
  rfl

end Cert.Stage
-- ==== Proof.Talk.lean ====
/-
# The protocol between the four devices

Written down before the proofs. Device `c` meets the peer `pr j c` through slot `j`, and `pr j` is its own
inverse. Every device has seven semaphores that carry the exchange:

* the barrier `barCell c`: one round of three units. Duty `j` is one unit, signalled by `pr j c` at its first
  grid point. It hands over slot `j` of the receive buffer of `pr j c`, into which device `c` will copy, and
  the fact that the receive semaphore of that slot is open. Device `c` waits for the three units at its last
  grid point, before it copies.
* the send semaphore `sCell c j`: one round, one duty `j`, paid by the departure of `c`'s own copy `j`. It hands
  back the share of `c`'s running sum the copy was lent, with the device's total in it.
* the receive semaphore `rCell c j`: one round, one duty `j`, paid by the landing of the copy of `pr j c`. It
  hands back slot `j` of `c`'s receive buffer with the total of `pr j c` in it.

Levels: a device waits at the barrier while it owes the three landings, so the receive semaphores stand above
the barrier, and everything else stands below it.
-/
module

public import proofs.«01_k».proof.Proof.Slots

@[expose] public section

noncomputable section

namespace Cert.Stage

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's own ghost state: rounds whose duties are named by the slot. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Semaphores and cells -/

abbrev barS : Sem sig := sig.barrier 0 rfl
def sS (j : Fin 3) : DmaSem sig := ⟨5 + j.val, by revert j; decide⟩
def rS (j : Fin 3) : DmaSem sig := ⟨8 + j.val, by revert j; decide⟩

theorem send0 : ((cc0_scratch2.slice (Rect.unit (s := S3) ![0] S1.size inb_S3_S1_0)).squeeze S_ squeezes_S1_S_).sem = sS 0 := rfl
theorem send1 : ((cc0_scratch2.slice (Rect.unit (s := S3) ![1] S1.size inb_S3_S1_1)).squeeze S_ squeezes_S1_S_).sem = sS 1 := rfl
theorem send2 : ((cc0_scratch2.slice (Rect.unit (s := S3) ![2] S1.size inb_S3_S1_2)).squeeze S_ squeezes_S1_S_).sem = sS 2 := rfl
theorem recv0 : ((cc0_scratch3.slice (Rect.unit (s := S3) ![0] S1.size inb_S3_S1_0)).squeeze S_ squeezes_S1_S_).sem = rS 0 := rfl
theorem recv1 : ((cc0_scratch3.slice (Rect.unit (s := S3) ![1] S1.size inb_S3_S1_1)).squeeze S_ squeezes_S1_S_).sem = rS 1 := rfl
theorem recv2 : ((cc0_scratch3.slice (Rect.unit (s := S3) ![2] S1.size inb_S3_S1_2)).squeeze S_ squeezes_S1_S_).sem = rS 2 := rfl

abbrev barCell (c : Dev nD) : GSem nD τ sig := ((c : Thread nD τ), .reg barS)
abbrev sCell (c : Dev nD) (j : Fin 3) : GSem nD τ sig := ((c : Thread nD τ), .dma (sS j))
abbrev rCell (c : Dev nD) (j : Fin 3) : GSem nD τ sig := ((c : Thread nD τ), .dma (rS j))

theorem sS_inj {j j' : Fin 3} (h : (SemLoc.dma (sS j) : SemLoc sig) = .dma (sS j')) : j = j' := by revert j j'; decide
theorem rS_inj {j j' : Fin 3} (h : (SemLoc.dma (rS j) : SemLoc sig) = .dma (rS j')) : j = j' := by revert j j'; decide
theorem rS_ne_sS (j j' : Fin 3) : (SemLoc.dma (rS j) : SemLoc sig) ≠ .dma (sS j') := by revert j j'; decide
theorem dma_ne_bar (q : DmaSem sig) : (SemLoc.dma q : SemLoc sig) ≠ .reg barS := fun h => by cases h

/-- What one copy of a `2 × 2048` array credits. -/
abbrev N : ℕ := (accM : Memref sig .tc .vmem S2x2048 .f32).view.dmaCredit
theorem N_pos : 0 < N := View.dmaCredit_pos _ (by decide)

/-! ## Payloads -/

/-- The share of the running sum that copy `j` reads from, and the share kept for the kernel's own load. -/
def shr : Fin 3 → PosShare TreeShare := ![fullShare.left.left, fullShare.left.right, fullShare.right.left]
abbrev keepShr : PosShare TreeShare := fullShare.right.right

/-- Three of a kind. -/
abbrev B3 (Φ : Fin 3 → sProp 𝕄) : sProp 𝕄 := iprop(Φ 0 ∗ Φ 1 ∗ Φ 2)

/-- The running sum of `c` at share `q`. -/
def accPts (q : PosShare TreeShare) (c : Dev nD) (f : S2x2048.Idx → Elt F .f32) : sProp 𝕄 :=
  accM.view.loc (c : Thread nD τ) ↦[accM.view.set]{q} f
/-- Slot `j` of `c`'s receive buffer. -/
def slotPts (j : Fin 3) (c : Dev nD) (f : S3x2x2048.Idx → Elt F .f32) : sProp 𝕄 :=
  (slotM j).view.loc (c : Thread nD τ) ↦[(slotM j).view.set]{fullShare} f

instance accPts_storable (q) (c : Dev nD) (f) : BI.Storable (upEmb : UEmb _ 𝕄) (accPts (F := F) q c f) := by unfold accPts; infer_instance
instance slotPts_storable (j) (c : Dev nD) (f) : BI.Storable (upEmb : UEmb _ 𝕄) (slotPts (F := F) j c f) := by unfold slotPts; infer_instance

theorem accPts_eq (q) (c : Dev nD) (f : S2x2048.Idx → Elt F .f32) :
    accPts q c f = (((c : Thread nD τ).loc cc0_scratch0) ↦{q} f : sProp 𝕄) := by unfold accPts; rw [View.set_whole]

theorem slotPts_eq (j) (c : Dev nD) (f : S3x2x2048.Idx → Elt F .f32) :
    slotPts j c f = (comLoc c ↦[slotSet j]{fullShare} f : sProp 𝕄) :=
  congrArg (fun S : Finset S3x2x2048.Idx => (comLoc c ↦[S]{fullShare} f : sProp 𝕄)) (slot_set j)

/-- The whole receive buffer is its three slots; -/
theorem com_split (c : Dev nD) (f : S3x2x2048.Idx → Elt F .f32) :
    (((c : Thread nD τ).loc cc0_scratch1) ↦{fullShare} f : sProp 𝕄) = B3 fun j => slotPts j c f := by
  rw [show (((c : Thread nD τ).loc cc0_scratch1) ↦{fullShare} f : sProp 𝕄) = _ from
    Ring.pointsTo_blocks (ℓ := comLoc c) slotSet slot_disjoint slot_cover f, bigSep_W0]
  simp only [slotPts_eq]

/-- the running sum's full share is the three lent shares and the kept one. -/
theorem acc_split (c : Dev nD) (f : S2x2048.Idx → Elt F .f32) :
    (accPts fullShare c f : sProp 𝕄) ⊣⊢ iprop((accPts (shr 0) c f ∗ accPts (shr 1) c f) ∗ accPts (shr 2) c f ∗ accPts keepShr c f) := by
  have h1 : (accPts fullShare c f : sProp 𝕄) ⊣⊢ iprop(accPts fullShare.left c f ∗ accPts fullShare.right c f) :=
    pointsTo_share (PosShare.mem_left_op_right fullShare)
  have h2 : (accPts fullShare.left c f : sProp 𝕄) ⊣⊢ iprop(accPts (shr 0) c f ∗ accPts (shr 1) c f) :=
    pointsTo_share (PosShare.mem_left_op_right fullShare.left)
  have h3 : (accPts fullShare.right c f : sProp 𝕄) ⊣⊢ iprop(accPts (shr 2) c f ∗ accPts keepShr c f) :=
    pointsTo_share (PosShare.mem_left_op_right fullShare.right)
  exact ⟨h1.1.trans (BIClass.sep_mono h2.1 h3.1), (BIClass.sep_mono h2.2 h3.2).trans h1.2⟩

/-- Barrier duty `j` of device `d`, from the peer `pr j d`. -/
def barPay (d : Dev nD) (j : Fin 3) : sProp 𝕄 := iprop((∃ f, slotPts j (pr j d) f) ∗ reached ER (rCell (pr j d) j) 0)

variable (tot : Dev nD → S2x2048.Idx → Elt F .f32)

/-! ## The schedule -/

def talk : Rounds.Schedule (GSem nD τ sig) (Fin 3) 𝕄 where
  duties g r := if r = 0 ∧ g.1.2 = .tc ∧ g.2 = .reg barS then Finset.univ
    else if r = 0 ∧ g.1.2 = .tc then Finset.univ.filter (fun j => g.2 = .dma (sS j) ∨ g.2 = .dma (rS j)) else ∅
  unitless _ := False
  amount g _ _ := if g.2 = .reg barS then 1 else N
  payload g _ j :=
    if g.2 = .reg barS then barPay g.1.1 j
    else if g.2 = .dma (sS j) then accPts (shr j) g.1.1 (tot g.1.1)
    else if g.2 = .dma (rS j) then slotPts j g.1.1 (gath tot g.1.1)
    else iprop(emp)
  amount_pos g _ _ _ := by
    by_cases h : g.2 = .reg barS
    · rw [if_pos h]; exact Nat.one_pos
    · rw [if_neg h]; exact N_pos

instance talk_payload_storable (g : GSem nD τ sig) (r : ℕ) (j : Fin 3) :
    BI.Storable (upEmb : UEmb _ 𝕄) ((talk tot).payload g r j) := by
  show BI.Storable upEmb (if g.2 = .reg barS then barPay g.1.1 j
    else if g.2 = .dma (sS j) then accPts (shr j) g.1.1 (tot g.1.1)
    else if g.2 = .dma (rS j) then slotPts j g.1.1 (gath tot g.1.1) else iprop(emp))
  unfold barPay
  (repeat' split) <;> infer_instance

section Sched
variable (c : Dev nD) (j : Fin 3)

theorem duties_bar : (talk tot).duties (barCell c) 0 = Finset.univ := by dsimp only [talk]; exact if_pos ⟨rfl, rfl, rfl⟩
theorem duties_send : (talk tot).duties (sCell c j) 0 = {j} := by
  dsimp only [talk]; rw [if_neg (fun h => dma_ne_bar _ h.2.2), if_pos ⟨rfl, rfl⟩]
  ext k; simp only [Finset.mem_filter, Finset.mem_univ, true_and, Finset.mem_singleton]
  exact ⟨fun h => h.elim (fun h => (sS_inj h).symm) (fun h => absurd h.symm (rS_ne_sS k j)), fun h => .inl (by rw [h])⟩
theorem duties_recv : (talk tot).duties (rCell c j) 0 = {j} := by
  dsimp only [talk]; rw [if_neg (fun h => dma_ne_bar _ h.2.2), if_pos ⟨rfl, rfl⟩]
  ext k; simp only [Finset.mem_filter, Finset.mem_univ, true_and, Finset.mem_singleton]
  exact ⟨fun h => h.elim (fun h => absurd h (rS_ne_sS j k)) (fun h => (rS_inj h).symm), fun h => .inr (by rw [h])⟩
theorem duties_later (g : GSem nD τ sig) : ∀ r, 1 ≤ r → (talk tot).duties g r = ∅ :=
  fun r hr => by dsimp only [talk]; rw [if_neg fun h => by omega, if_neg fun h => by omega]

theorem amount_bar : (talk tot).amount (barCell c) 0 j = 1 := by dsimp only [talk]; exact if_pos rfl
theorem amount_dma (q : DmaSem sig) : (talk tot).amount ((c : Thread nD τ), .dma q) 0 j = N := by
  dsimp only [talk]; exact if_neg (dma_ne_bar q)

theorem expect_bar : (talk tot).expect (barCell c) 0 = 3 := by
  unfold Schedule.expect Schedule.amountOf
  rw [duties_bar, Finset.sum_congr rfl fun j _ => amount_bar tot c j, Finset.sum_const, Finset.card_univ, Fintype.card_fin, smul_eq_mul]
theorem expect_send : (talk tot).expect (sCell c j) 0 = N := by
  unfold Schedule.expect Schedule.amountOf; rw [duties_send, Finset.sum_singleton, amount_dma]
theorem expect_recv : (talk tot).expect (rCell c j) 0 = N := by
  unfold Schedule.expect Schedule.amountOf; rw [duties_recv, Finset.sum_singleton, amount_dma]

theorem payload_bar : (talk tot).payload (barCell c) 0 j = barPay c j := by dsimp only [talk]; exact if_pos rfl
theorem payload_send : (talk tot).payload (sCell c j) 0 j = accPts (shr j) c (tot c) := by
  dsimp only [talk]; rw [if_neg (dma_ne_bar _), if_pos rfl]
theorem payload_recv : (talk tot).payload (rCell c j) 0 j = slotPts j c (gath tot c) := by
  dsimp only [talk]; rw [if_neg (dma_ne_bar _), if_neg (rS_ne_sS j j), if_pos rfl]

theorem rest_bar : bigSep ((talk tot).duties (barCell c) 0 \ ∅) (fun j => (talk tot).payload (barCell c) 0 j) = B3 (barPay c) := by
  rw [Finset.sdiff_empty, duties_bar, bigSep_W0, payload_bar, payload_bar, payload_bar]
theorem rest_send : bigSep ((talk tot).duties (sCell c j) 0 \ ∅) (fun j' => (talk tot).payload (sCell c j) 0 j') = accPts (shr j) c (tot c) := by
  rw [Finset.sdiff_empty, duties_send, bigSep_singleton, payload_send]
theorem rest_recv : bigSep ((talk tot).duties (rCell c j) 0 \ ∅) (fun j' => (talk tot).payload (rCell c j) 0 j') = slotPts j c (gath tot c) := by
  rw [Finset.sdiff_empty, duties_recv, bigSep_singleton, payload_recv]

end Sched

/-! ## What each device owes at launch, and the levels -/

/-- Device `c`'s debt for copy `j`, and for signal `j`. -/
abbrev owR (c : Dev nD) (j : Fin 3) : CellTallies nD τ sig Unit := tallyAt (rCell (pr j c) j) () N
abbrev owB (c : Dev nD) (j : Fin 3) : CellTallies nD τ sig Unit := tallyAt (barCell (pr j c)) () 1

/-- The three landings, the first copy's outermost; before them the three signals. -/
def Ocopy (c : Dev nD) : CellTallies nD τ sig Unit := 0 + owR c 2 + owR c 1 + owR c 0
def O₀ (c : Dev nD) : CellTallies nD τ sig Unit := Ocopy c + owB c 2 + owB c 1 + owB c 0

def L (g : GSem nD τ sig) : Finset Unit := if g.1.2 = .tc then {()} else ∅
abbrev IsRecv (s : SemLoc sig) : Prop := ∃ j, s = .dma (rS j)
def lv (g : GSem nD τ sig) (_ : Unit) : ℕ := if g.2 = .reg barS then 1 else if IsRecv g.2 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (j : Fin 3) (u : Unit) : lv (rCell c j) u = 2 := by
  dsimp only [lv]; rw [if_neg (dma_ne_bar _), if_pos ⟨j, rfl⟩]

theorem Ocopy_pos {c : Dev nD} {g : GSem nD τ sig} {u : Unit} (h : 0 < Ocopy c g u) : ∃ j, g = rCell (pr j c) j := by
  by_contra hn
  rw [not_exists] at hn
  unfold Ocopy at h
  simp only [Pi.add_apply, Finsupp.add_apply, tallyAt_apply, if_neg (fun h' : g = _ ∧ _ => hn _ h'.1)] at h
  exact Nat.lt_irrefl 0 h
theorem O₀_pos {c : Dev nD} {g : GSem nD τ sig} {u : Unit} (h : 0 < O₀ c g u) :
    (∃ j, g = rCell (pr j c) j) ∨ ∃ j, g = barCell (pr j c) := by
  by_contra hn
  rw [not_or, not_exists, not_exists] at hn
  unfold O₀ Ocopy at h
  simp only [Pi.add_apply, Finsupp.add_apply, tallyAt_apply, if_neg (fun h' : g = _ ∧ _ => hn.1 _ h'.1),
    if_neg (fun h' : g = _ ∧ _ => hn.2 _ h'.1)] at h
  exact Nat.lt_irrefl 0 h

/-- A device may wait at any semaphore of the pipeline's own whatever it still owes. -/
theorem mayWait_stage (c : Dev nD) (q : DmaSem sig) (hq : ¬ IsRecv (.dma q : SemLoc sig)) (O : CellTallies nD τ sig Unit)
    (hO : O = O₀ c ∨ O = Ocopy c ∨ O = 0) : (levAts L lv : sProp 𝕄) ⊢ MayWait (c : Thread nD τ) (.dma q) () O := by
  have low : lv (((c : Thread nD τ), .dma q) : GSem nD τ sig) () ≤ 0 := by
    dsimp only [lv]; rw [if_neg (dma_ne_bar _), if_neg hq]
  rcases hO with rfl | rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; exact low)
      (fun g u hg => by
        rcases O₀_pos hg with ⟨j, rfl⟩ | ⟨j, rfl⟩
        · rw [lv_recv]; decide
        · rw [lv_bar]; decide)
  · refine MayOwe.of_cut (L := L) (lev := lv) 0 (fun p hp => by rw [Finset.mem_singleton.mp hp, L_tc]; exact Finset.mem_singleton_self _)
      (fun g u hg => by obtain ⟨j, rfl⟩ := Ocopy_pos hg; exact Finset.mem_singleton_self _)
      (fun p hp => by rw [Finset.mem_singleton.mp hp]; exact low)
      (fun g u hg => by obtain ⟨j, rfl⟩ := Ocopy_pos hg; rw [lv_recv]; decide)
  · rw [MayWait_zero]; iintro -; iempintro

/-- At the barrier a device owes the three landings only. -/
theorem mayWait_bar (c : Dev nD) : (levAts L lv : sProp 𝕄) ⊢ MayWait (c : Thread nD τ) (.reg barS) () (Ocopy c) :=
  MayOwe.of_cut (L := L) (lev := lv) 1 (fun p hp => by rw [Finset.mem_singleton.mp hp, L_tc]; exact Finset.mem_singleton_self _)
    (fun g u hg => by obtain ⟨j, rfl⟩ := Ocopy_pos hg; exact Finset.mem_singleton_self _)
    (fun p hp => by rw [Finset.mem_singleton.mp hp]; exact (lv_bar c _).le)
    (fun g u hg => by obtain ⟨j, rfl⟩ := Ocopy_pos hg; rw [lv_recv]; decide)

end Cert.Stage
-- ==== Proof.Steps.lean ====
/-
# Single steps of the body

Loads and stores of a whole array, a load of one slot of the receive buffer, one signal, one copy and one wait of
the protocol, each as a rule that says what the device holds before and after.
-/
module

public import proofs.«01_k».proof.Proof.Talk

@[expose] public section

noncomputable section

namespace Cert.Stage

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Whole arrays -/

section Whole

variable {n : ℕ} {d : Fin n → ℕ} {e : EltTy} {α : Type}

/-- The rectangle of an array's own extents at offset zero visits every index once, in place. -/
theorem full_emb {off : Fin n → ℕ} (h0 : ∀ a, off a = 0) (inb : ∀ a, off a + d a ≤ d a) (x : (⟨n, d⟩ : Shape).Idx) :
    ((Rect.unit (s := ⟨n, d⟩) off d inb).emb x : (⟨n, d⟩ : Shape).Idx) = x := by
  funext a
  apply Fin.ext
  rw [Rect.emb_apply]
  show off a + 1 * (x a).val = (x a).val
  rw [h0 a]; omega

theorem readAt_full (m : Memref sig .tc .vmem ⟨n, d⟩ e) {off : Fin n → ℕ} (h0 : ∀ a, off a = 0) (inb : ∀ a, off a + d a ≤ d a)
    (f : m.view.ty.Contents (Elt F)) :
    m.view.readAt (Elt F) (Rect.unit (s := ⟨n, d⟩) off d inb).toLoadRect f = m.view.read (Elt F) f := by
  funext x
  show m.view.read (Elt F) f ((Rect.unit (s := ⟨n, d⟩) off d inb).emb x) = _
  rw [full_emb h0 inb x]

theorem read_write_full (m : Memref sig .tc .vmem ⟨n, d⟩ e) {off : Fin n → ℕ} (h0 : ∀ a, off a = 0) (inb : ∀ a, off a + d a ≤ d a)
    (f : m.view.ty.Contents (Elt F)) (w : (⟨n, d⟩ : Shape).Idx → Elt F e) :
    m.view.read (Elt F) ((m.access (Rect.unit (s := ⟨n, d⟩) off d inb)).write (Elt F) f w Finset.univ) = w := by
  funext x
  have h := View.read_slice_write_emb (Val := Elt F) (v := m.view) (Rect.unit (s := ⟨n, d⟩) off d inb) f w (Finset.mem_univ x)
  rw [full_emb h0 inb x] at h
  exact h

/-- A load of a whole array held at some share. -/
theorem load_owns (c : Dev nD) (m : Memref sig .tc .vmem ⟨n, d⟩ e) {off : Fin n → ℕ} (h0 : ∀ a, off a = 0) (inb : ∀ a, off a + d a ≤ d a)
    {hl : m.view.LoadsAt (Rect.unit (s := ⟨n, d⟩) off d inb).toLoadRect}
    {k : ((⟨n, d⟩ : Shape).Idx → Elt F e) → Prog (TpuEff nD τ sig (Elt F) Λ₀ .tc) α} {Q : α → sProp 𝕄}
    {q : PosShare TreeShare} (X : (⟨n, d⟩ : Shape).Idx → Elt F e) :
    (owns (c : Thread nD τ) m q X : sProp 𝕄)
      ⊢ iprop((owns (c : Thread nD τ) m q X -∗ wp frame (wpE (defs₀ (F := F)) 𝒱₀ (c : Thread nD τ) none) Set.univ (k X) Q)
        -∗ wp frame (wpE (defs₀ (F := F)) 𝒱₀ (c : Thread nD τ) none) Set.univ
          (.op (.load m (Rect.unit (s := ⟨n, d⟩) off d inb).toLoadRect hl) k) Q) := by
  unfold owns
  iintro ⟨%f, %hf, H⟩ Hk
  iapply (wp_load 𝒱₀ (c : Thread nD τ) none Set.univ (m := m) (View.setOn_subset_set _ _)) $$ H
  iintro H
  rw [readAt_full m h0 inb f, hf]
  iapply Hk
  iexists f
  isplitr
  · ipureintro; exact hf
  · iexact H

/-- A store over a whole array. -/
theorem store_owns (c : Dev nD) (m : Memref sig .tc .vmem ⟨n, d⟩ e) {off : Fin n → ℕ} (h0 : ∀ a, off a = 0) (inb : ∀ a, off a + d a ≤ d a)
    {w : (⟨n, d⟩ : Shape).Idx → Elt F e} {hx : (m.access (Rect.unit (s := ⟨n, d⟩) off d inb)).Stores Finset.univ} {hm}
    {k : PUnit → Prog (TpuEff nD τ sig (Elt F) Λ₀ .tc) α} {Q : α → sProp 𝕄} (X : (⟨n, d⟩ : Shape).Idx → Elt F e) :
    (owns (c : Thread nD τ) m fullShare X : sProp 𝕄)
      ⊢ iprop((owns (c : Thread nD τ) m fullShare w -∗ wp frame (wpE (defs₀ (F := F)) 𝒱₀ (c : Thread nD τ) none) Set.univ (k ⟨⟩) Q)
        -∗ wp frame (wpE (defs₀ (F := F)) 𝒱₀ (c : Thread nD τ) none) Set.univ
          (.op (.store m (Rect.unit (s := ⟨n, d⟩) off d inb) w Finset.univ hx hm) k) Q) := by
  unfold owns
  iintro ⟨%f, -, H⟩ Hk
  iapply (wp_store 𝒱₀ (c : Thread nD τ) none Set.univ (m := m) (r := Rect.unit (s := ⟨n, d⟩) off d inb) (Mk := Finset.univ)
    (by rw [View.setOn_univ]; exact View.set_slice_subset _ _)) $$ H
  iintro H
  iapply Hk
  iexists _
  isplitr
  · ipureintro; exact read_write_full m h0 inb f w
  · iexact H

end Whole

theorem zero2 : ∀ a, (![0, 0] : Fin 2 → ℕ) a = 0 := by decide

/-- A load of the running sum, held at some share. -/
theorem load_acc {α : Type} (c : Dev nD) {off : Fin 2 → ℕ} (h0 : ∀ a, off a = 0) (inb : ∀ a, off a + S2x2048.size a ≤ S2x2048.size a)
    {hl : accM.view.LoadsAt (Rect.unit (s := S2x2048) off S2x2048.size inb).toLoadRect}
    {k : (S2x2048.Idx → Elt F .f32) → Prog (TpuEff nD τ sig (Elt F) Λ₀ .tc) α} {Q : α → sProp 𝕄}
    {q : PosShare TreeShare} (f : S2x2048.Idx → Elt F .f32) :
    (accPts q c f : sProp 𝕄)
      ⊢ iprop((accPts q c f -∗ wp frame (wpE (defs₀ (F := F)) 𝒱₀ (c : Thread nD τ) none) Set.univ (k f) Q)
        -∗ wp frame (wpE (defs₀ (F := F)) 𝒱₀ (c : Thread nD τ) none) Set.univ
          (.op (.load accM (Rect.unit (s := S2x2048) off S2x2048.size inb).toLoadRect hl) k) Q) := by
  unfold accPts
  iintro H Hk
  iapply (wp_load 𝒱₀ (c : Thread nD τ) none Set.univ (m := accM) (View.setOn_subset_set _ _)) $$ H
  iintro H
  rw [readAt_full accM h0 inb f]
  iapply Hk
  iexact H

/-- A store over the running sum. -/
theorem store_acc {α : Type} (c : Dev nD) {off : Fin 2 → ℕ} (h0 : ∀ a, off a = 0) (inb : ∀ a, off a + S2x2048.size a ≤ S2x2048.size a)
    {w : S2x2048.Idx → Elt F .f32} {hx : (accM.access (Rect.unit (s := S2x2048) off S2x2048.size inb)).Stores Finset.univ} {hm}
    {k : PUnit → Prog (TpuEff nD τ sig (Elt F) Λ₀ .tc) α} {Q : α → sProp 𝕄} (f : S2x2048.Idx → Elt F .f32) :
    (accPts fullShare c f : sProp 𝕄)
      ⊢ iprop((accPts fullShare c w -∗ wp frame (wpE (defs₀ (F := F)) 𝒱₀ (c : Thread nD τ) none) Set.univ (k ⟨⟩) Q)
        -∗ wp frame (wpE (defs₀ (F := F)) 𝒱₀ (c : Thread nD τ) none) Set.univ
          (.op (.store accM (Rect.unit (s := S2x2048) off S2x2048.size inb) w Finset.univ hx hm) k) Q) := by
  unfold accPts
  iintro H Hk
  iapply (wp_store 𝒱₀ (c : Thread nD τ) none Set.univ (m := accM) (r := Rect.unit (s := S2x2048) off S2x2048.size inb) (Mk := Finset.univ)
    (by rw [View.setOn_univ]; exact View.set_slice_subset _ _)) $$ H
  iintro H
  rw [show (accM.access (Rect.unit (s := S2x2048) off S2x2048.size inb)).write (Elt F) f w Finset.univ = w from
    Memref.write_access_unit_zero_univ (Elt F) cc0_scratch0 (funext h0) inb f w]
  iapply Hk
  iexact H

/-- Slot `j` of the receive buffer as the vector load returns it, the slot axis kept. -/
def slotVec (g : S3x2x2048.Idx → Elt F .f32) (j : Fin 3) : S1x2x2048.Idx → Elt F .f32 :=
  fun x => g (at3 j (Fin.tail x))

/-- A load of slot `j` through the whole receive buffer. -/
theorem load_slot {α : Type} (c : Dev nD) (j : Fin 3) {off : Fin 3 → ℕ} (h0 : off = ![j.val, 0, 0])
    (inb : ∀ a, off a + S1x2x2048.size a ≤ S3x2x2048.size a)
    {hl : comM.view.LoadsAt (Rect.unit (s := S3x2x2048) off S1x2x2048.size inb).toLoadRect}
    {k : (S1x2x2048.Idx → Elt F .f32) → Prog (TpuEff nD τ sig (Elt F) Λ₀ .tc) α} {Q : α → sProp 𝕄}
    (g : S3x2x2048.Idx → Elt F .f32) :
    (slotPts j c g : sProp 𝕄)
      ⊢ iprop((slotPts j c g -∗ wp frame (wpE (defs₀ (F := F)) 𝒱₀ (c : Thread nD τ) none) Set.univ (k (slotVec g j)) Q)
        -∗ wp frame (wpE (defs₀ (F := F)) 𝒱₀ (c : Thread nD τ) none) Set.univ
          (.op (.load comM (Rect.unit (s := S3x2x2048) off S1x2x2048.size inb).toLoadRect hl) k) Q) := by
  subst h0
  have key : ∀ x : S1x2x2048.Idx, ((Rect.unit (s := S3x2x2048) ![j.val, 0, 0] S1x2x2048.size inb).emb x : S3x2x2048.Idx) = at3 j (Fin.tail x) := by
    intro x
    have hx0 : (x 0).val = 0 := Nat.lt_one_iff.mp (x 0).isLt
    funext a
    apply Fin.ext
    match a with
    | ⟨0, _⟩ => show j.val + 1 * (x 0).val = j.val; omega
    | ⟨1, _⟩ => show 0 + 1 * (x 1).val = (x 1).val; omega
    | ⟨2, _⟩ => show 0 + 1 * (x 2).val = (x 2).val; omega
  rw [slotPts_eq]
  iintro H Hk
  iapply (wp_load 𝒱₀ (c : Thread nD τ) none Set.univ (m := comM) (r := (Rect.unit (s := S3x2x2048) ![j.val, 0, 0] S1x2x2048.size inb).toLoadRect) (S := slotSet j) (by
      intro i hi
      obtain ⟨y, hy, rfl⟩ := Finset.mem_map.mp hi
      obtain ⟨x, hx, h⟩ := (LoadRect.mem_set _).mp hy 0
      refine mem_slotSet.mpr (Fin.ext ?_)
      have hx1 : x < 1 := hx
      have h' : (y 0).val = j.val + 1 * x := h
      show (y 0).val = j.val
      omega)) $$ H
  iintro H
  rw [show comM.view.readAt (Elt F) (Rect.unit (s := S3x2x2048) ![j.val, 0, 0] S1x2x2048.size inb).toLoadRect g = slotVec g j from
    funext fun x => congrArg g (key x)]
  iapply Hk
  iexact H

/-! ## The protocol's steps -/

variable (tot : Dev nD → S2x2048.Idx → Elt F .f32)

/-- Signal `j`: device `c` hands its slot `j` to the peer's barrier. -/
theorem step_signal {α : Type} (K : GSem nD τ sig → ℕ) (c p : Dev nD) (j : Fin 3) (hp : p = pr j c) {k : PUnit → Prog (TpuEff nD τ sig (Elt F) Λ₀ .tc) α}
    {Q : α → sProp 𝕄} (O : CellTallies nD τ sig Unit) {W : Waits sig Unit} (f : S3x2x2048.Idx → Elt F .f32) :
    iprop(cellInv ER (talk tot) (K (barCell (pr j c))) (barCell (pr j c)) ∗ owes (c : Thread nD τ) (O + owB c j) W
        ∗ dutyTok ER (barCell (pr j c)) 0 j ∗ reached ER (barCell (pr j c)) 0 ∗ slotPts j c f ∗ reached ER (rCell c j) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (p : Thread nD τ) barS 1) k) Q) := by
  subst hp
  iintro ⟨#HI, HO, Htok, #Hr, Hs, #Hrr⟩ Hk
  iapply (Rounds.wp_signal 𝒱₀ ER (talk tot) (c : Thread nD τ) none (dst := (pr j c : Thread nD τ)) (sem := barS) (r := 0) (d := j) (κ := K (barCell (pr j c)))
      (by rw [duties_bar]; exact Finset.mem_univ _) (amount_bar tot (pr j c) j) () O rfl) $$ [HO Htok Hs]
  · isplitr; · iexact HI
    isplitl [HO]; · iexact HO
    isplitl [Htok]; · iexact Htok
    isplitl [Hs]
    · rw [payload_bar]; unfold barPay; rw [pr_pr]
      isplitl [Hs]; · iexists f; iexact Hs
      iexact Hrr
    · iexact Hr
  iintro HO
  iapply Hk
  iexact HO

/-- Copy `j`: from the share of the running sum lent to it into the peer's slot `j`. -/
theorem step_send {α : Type} (K : GSem nD τ sig → ℕ) (c p : Dev nD) (j : Fin 3) (hp : p = pr j c) {k : PUnit → Prog (TpuEff nD τ sig (Elt F) Λ₀ .tc) α}
    {Q : α → sProp 𝕄} {hsc} {hsrc} {hdst} {hsem} (O : CellTallies nD τ sig Unit) {W : Waits sig Unit} (fd : S3x2x2048.Idx → Elt F .f32) :
    iprop(cellInv ER (talk tot) (K (sCell c j)) (sCell c j) ∗ cellInv ER (talk tot) (K (rCell (pr j c) j)) (rCell (pr j c) j)
        ∗ accPts (shr j) c (tot c) ∗ slotPts j (pr j c) fd ∗ owes (c : Thread nD τ) (O + owR c j) W
        ∗ dutyTok ER (sCell c j) 0 j ∗ reached ER (sCell c j) 0
        ∗ dutyTok ER (rCell (pr j c) j) 0 j ∗ reached ER (rCell (pr j c) j) 0)
      ⊢ iprop(((cred (tallyAt (sCell c j) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma accM (.remote (p : Thread nD τ) (slotM j) (.dma (sS j)) hsc) (.dma (rS j)) hsrc hdst hsem) k) Q) := by
  subst hp
  iintro ⟨#HIs, #HIr, Hx, Hs, HO, Hts, #Hrs, Htr, #Hrr⟩ Hk
  unfold accPts slotPts
  iapply (Rounds.wp_send_pointsTo 𝒱₀ ER (talk tot) (c : Thread nD τ) none (c' := (pr j c : Thread nD τ)) (src := accM) (dst := slotM j)
      (sS := .dma (sS j)) (sem := .dma (rS j)) (q := shr j) (fs := tot c) (κ₁ := K (sCell c j)) (κ₂ := K (rCell (pr j c) j))
      (r₁ := 0) (r₂ := 0) (d₁ := j) (d₂ := j) (fd := fd)
      (by rw [duties_send]; exact Finset.mem_singleton_self _) (by rw [duties_recv]; exact Finset.mem_singleton_self _)
      () () N rfl (amount_dma tot c j _) (amount_dma tot (pr j c) j _) O rfl (W := W)
      (by rw [payload_send]; exact BI.Entails.refl _)
      (by
        rw [payload_recv]; unfold slotPts
        refine Entails.of_eq (pointsTo_congr fun i hi => ?_)
        have h := landed tot j (pr j c) fd i hi
        rw [pr_pr] at h
        exact h)) $$ [Hx Hs HO Hts Htr]
  · isplitr; · iexact HIs
    isplitr; · iexact HIr
    isplitl [Hx]; · iexact Hx
    isplitl [Hs]; · iexact Hs
    isplitl [HO]; · iexact HO
    isplitl [Hts]; · iexact Hts
    isplitr; · iexact Hrs
    isplitl [Htr]; · iexact Htr
    iexact Hrr
  iexact Hk

/-- The wait at the barrier. -/
theorem step_bar {α : Type} (K : GSem nD τ sig → ℕ) (c : Dev nD) {k : PUnit → Prog (TpuEff nD τ sig (Elt F) Λ₀ .tc) α}
    {Q : α → sProp 𝕄} {W : Waits sig Unit} :
    iprop(cellInv ER (talk tot) (K (barCell c)) (barCell c) ∗ cred (tallyAt (barCell c) () 3) ∗ owes (c : Thread nD τ) (Ocopy c) W
        ∗ levAts L lv ∗ atPos ER (barCell c) 0 ∅ 0)
      ⊢ iprop(((owes (c : Thread nD τ) (Ocopy c) (insert (SemLoc.reg barS, ()) W) ∗ atPos ER (barCell c) (0 + 1) ∅ 0 ∗ B3 (barPay c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  iintro ⟨#HI, Hc, HO, #Hlev, Hat⟩ Hk
  iapply (Rounds.wp_wait_rest_token 𝒱₀ ER (talk tot) (c : Thread nD τ) none (κ := K (barCell c))
      (wpE_semWait_eq 𝒱₀ (c : Thread nD τ) none Set.univ) (Set.mem_univ _) () (O := Ocopy c) (W := W) (R := 0) (m := 0) (T := ∅)
      ((Nat.zero_add 3).trans (expect_bar tot c).symm)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hpay := (Entails.of_eq (rest_bar tot c)) $$ Hpay
  iapply Hk
  isplitl [HO]; · iexact HO
  isplitl [Hat]; · iexact Hat
  iexact Hpay

/-- The wait for the landing in slot `j`, nothing owed. -/
theorem step_recv {α : Type} (K : GSem nD τ sig → ℕ) (c : Dev nD) (j : Fin 3) {k : PUnit → Prog (TpuEff nD τ sig (Elt F) Λ₀ .tc) α}
    {Q : α → sProp 𝕄} {W : Waits sig Unit} {hsrc} {hdst} :
    iprop(cellInv ER (talk tot) (K (rCell c j)) (rCell c j) ∗ cred (tallyAt (rCell c j) () N) ∗ owes (c : Thread nD τ) 0 W
        ∗ atPos ER (rCell c j) 0 ∅ 0)
      ⊢ iprop(((owes (c : Thread nD τ) 0 (insert (SemLoc.dma (rS j), ()) W) ∗ atPos ER (rCell c j) (0 + 1) ∅ 0 ∗ slotPts j c (gath tot c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rS j) accM (slotM j) hsrc hdst) k) Q) := by
  iintro ⟨#HI, Hc, HO, Hat⟩ Hk
  iapply (Rounds.wp_wait_rest_token 𝒱₀ ER (talk tot) (c : Thread nD τ) none (κ := K (rCell c j))
      (wpE_waitDma2_eq (src := accM) (dst := slotM j) 𝒱₀ (c : Thread nD τ) none Set.univ) (Set.mem_univ _) () (O := 0) (W := W) (R := 0) (m := 0) (T := ∅)
      ((Nat.zero_add _).trans (expect_recv tot c j).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq (rest_recv tot c j)) $$ Hpay
  iapply Hk
  isplitl [HO]; · iexact HO
  isplitl [Hat]; · iexact Hat
  iexact Hpay

/-- The wait for the departure of copy `j`, nothing owed: its share of the running sum comes back. -/
theorem step_sent {α : Type} (K : GSem nD τ sig → ℕ) (c : Dev nD) (j : Fin 3) {k : PUnit → Prog (TpuEff nD τ sig (Elt F) Λ₀ .tc) α}
    {Q : α → sProp 𝕄} {W : Waits sig Unit} {hsrc} {hdst} :
    iprop(cellInv ER (talk tot) (K (sCell c j)) (sCell c j) ∗ cred (tallyAt (sCell c j) () N) ∗ owes (c : Thread nD τ) 0 W
        ∗ atPos ER (sCell c j) 0 ∅ 0)
      ⊢ iprop(((owes (c : Thread nD τ) 0 (insert (SemLoc.dma (sS j), ()) W) ∗ atPos ER (sCell c j) (0 + 1) ∅ 0 ∗ accPts (shr j) c (tot c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sS j) (slotM j) accM hsrc hdst) k) Q) := by
  iintro ⟨#HI, Hc, HO, Hat⟩ Hk
  iapply (Rounds.wp_wait_rest_token 𝒱₀ ER (talk tot) (c : Thread nD τ) none (κ := K (sCell c j))
      (wpE_waitDma2_eq (src := slotM j) (dst := accM) 𝒱₀ (c : Thread nD τ) none Set.univ) (Set.mem_univ _) () (O := 0) (W := W) (R := 0) (m := 0) (T := ∅)
      ((Nat.zero_add _).trans (expect_send tot c j).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq (rest_send tot c j)) $$ Hpay
  iapply Hk
  isplitl [HO]; · iexact HO
  isplitl [Hat]; · iexact Hat
  iexact Hpay

/-- A semaphore whose one round is over gives its counter back, at zero. -/
theorem close (κ : ℕ) (g : GSem nD τ sig) :
    iprop(cellInv ER (talk tot) κ g ∗ atPos ER g (0 + 1) ∅ 0) ⊢ (|={Set.univ}=> semVal g 0 : sProp 𝕄) :=
  Rounds.cell_close ER (talk tot) (Set.mem_univ κ) id (duties_later tot g)

end Cert.Stage
-- ==== Proof.Body.lean ====
/-
# The body at one grid point

Three runs: at the first point (which clears the running sum and hands out the slots), at a middle point, and at the
last point (which exchanges the sums and writes the result).
-/
module

public import proofs.«01_k».proof.Proof.Steps

@[expose] public section

noncomputable section

namespace Cert.Stage

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The values -/

/-- The running sum after a block `x`, `dy` is added to `f`. -/
def accNext (x y : Vec F S512x2048 .bf16) (f : FVec F S2x2048 .f32) : FVec F S2x2048 .f32 :=
  k0_pay1 (k0_pay6 y) (k0_pay8 x) (k0_pay9 x) f

/-- What device `c` writes once the four sums stand. -/
def outOf (tot : Dev nD → FVec F S2x2048 .f32) (c : Dev nD) : FVec F S2x2048 .f32 :=
  k0_pay2 (tot c) (k0_pay3 (slotVec (gath tot c) 0)) (slotVec (gath tot c) 1) (slotVec (gath tot c) 2)

variable (tot : Dev nD → S2x2048.Idx → Elt F .f32)

/-! ## The protocol's records and rights -/

/-- The semaphores of the exchange: the barrier of every device, and its send and receive semaphores. -/
def barEmb : Dev nD ↪ GSem nD τ sig := ⟨fun c => barCell c, fun a b h => by simpa [barCell] using h⟩
def osem (k : Fin 6) : SemLoc sig := .dma (⟨5 + k.val, by have := k.isLt; show _ < 11; omega⟩ : DmaSem sig)
theorem osem_inj : Function.Injective osem := by decide
def ownEmb : Dev nD × Fin 6 ↪ GSem nD τ sig :=
  ⟨fun x => ((x.1 : Thread nD τ), osem x.2), fun a b h => by
    have h1 := congrArg (fun g : GSem nD τ sig => g.1.1) h
    have h2 := congrArg (fun g : GSem nD τ sig => g.2) h
    exact Prod.ext h1 (osem_inj h2)⟩
def barCells : Finset (GSem nD τ sig) := Finset.univ.map barEmb
def ownCells : Finset (GSem nD τ sig) := Finset.univ.map ownEmb

/-- Every semaphore of the exchange runs by the schedule, and every barrier's round is open. -/
def recs (K : GSem nD τ sig → ℕ) : sProp 𝕄 :=
  iprop(bigSep (barCells ∪ ownCells) (fun g => cellInv ER (talk tot) (K g) g) ∗ bigSep barCells (fun g => reached ER g 0))

instance (K) : BI.Persistent (recs tot K) := by unfold recs; infer_instance

theorem bar_mem (c : Dev nD) : barCell c ∈ barCells := Finset.mem_map.mpr ⟨c, Finset.mem_univ _, rfl⟩
theorem own_mem (c : Dev nD) (k : Fin 6) : (((c : Thread nD τ), osem k) : GSem nD τ sig) ∈ ownCells :=
  Finset.mem_map.mpr ⟨(c, k), Finset.mem_univ _, rfl⟩
theorem send_mem (c : Dev nD) (j : Fin 3) : sCell c j ∈ ownCells := by
  fin_cases j
  · exact own_mem c 0
  · exact own_mem c 1
  · exact own_mem c 2
theorem recv_mem (c : Dev nD) (j : Fin 3) : rCell c j ∈ ownCells := by
  fin_cases j
  · exact own_mem c 3
  · exact own_mem c 4
  · exact own_mem c 5

theorem recs_at (K) {g : GSem nD τ sig} (h : g ∈ barCells ∪ ownCells) : recs tot K ⊢ cellInv ER (talk tot) (K g) g := by
  have e : (bigSep (barCells ∪ ownCells) (fun g => cellInv ER (talk tot) (K g) g) : sProp 𝕄) ⊢ cellInv ER (talk tot) (K g) g := BI.bigSep_elim h
  unfold recs
  iintro ⟨H, -⟩
  iapply e $$ H
theorem recs_bar (K) (c : Dev nD) : recs tot K ⊢ cellInv ER (talk tot) (K (barCell c)) (barCell c) :=
  recs_at tot K (Finset.mem_union_left _ (bar_mem c))
theorem recs_send (K) (c : Dev nD) (j : Fin 3) : recs tot K ⊢ cellInv ER (talk tot) (K (sCell c j)) (sCell c j) :=
  recs_at tot K (Finset.mem_union_right _ (send_mem c j))
theorem recs_recv (K) (c : Dev nD) (j : Fin 3) : recs tot K ⊢ cellInv ER (talk tot) (K (rCell c j)) (rCell c j) :=
  recs_at tot K (Finset.mem_union_right _ (recv_mem c j))
theorem recs_open (K) (c : Dev nD) : recs tot K ⊢ reached ER (barCell c) 0 := by
  have e : (bigSep barCells (fun g => reached ER g 0) : sProp 𝕄) ⊢ reached ER (barCell c) 0 := BI.bigSep_elim (bar_mem c)
  unfold recs
  iintro ⟨-, H⟩
  iapply e $$ H

/-- What the signals spend. -/
def signals (c : Dev nD) : sProp 𝕄 :=
  iprop((B3 fun j => reached ER (rCell c j) 0) ∗ (B3 fun j => dutyTok ER (barCell (pr j c)) 0 j))

/-- What the exchange at the last point spends. -/
def kept (c : Dev nD) : sProp 𝕄 :=
  iprop(atPos ER (barCell c) 0 ∅ 0 ∗ (B3 fun j => atPos ER (sCell c j) 0 ∅ 0) ∗ (B3 fun j => atPos ER (rCell c j) 0 ∅ 0)
    ∗ (B3 fun j => reached ER (sCell c j) 0) ∗ (B3 fun j => dutyTok ER (sCell c j) 0 j)
    ∗ (B3 fun j => dutyTok ER (rCell (pr j c) j) 0 j) ∗ cred (tallyAt (barCell c) () 3) ∗ (B3 fun j => cred (tallyAt (rCell c j) () N)))

/-- The six counters of a device's own semaphores. -/
def zeros (c : Dev nD) : sProp 𝕄 :=
  iprop((B3 fun j => semVal (sCell c j) 0) ∗ (B3 fun j => semVal (rCell c j) 0))

section Runs

variable (K : GSem nD τ sig → ℕ) (c : Dev nD) (i : grid0.Coords)
  (arg1 : Memref sig .tc .smem S1 .i32) (harg1 : arg1.IsWhole)
  (arg2 : Memref sig .tc .vmem S512x2048 .bf16) (harg2 : arg2.IsWhole)
  (arg3 : Memref sig .tc .vmem S512x2048 .bf16) (harg3 : arg3.IsWhole)
  (arg4 : Memref sig .tc .vmem S2x2048 .f32) (harg4 : arg4.IsWhole)
  (harg5 : accM.IsWhole) (harg6 : comM.IsWhole)
  (X Y : S512x2048.Idx → Elt F .bf16) (f : S2x2048.Idx → Elt F .f32)

/-- A middle point: the block is added to the running sum. -/
theorem run_mid (h1 : ¬ k0_cond1 i = 1#1) (h2 : ¬ k0_cond2 i = 1#1) (Q : PUnit → sProp 𝕄) :
    iprop((owns (c : Thread nD τ) arg2 fullShare X ∗ owns (c : Thread nD τ) arg3 fullShare Y ∗ accPts fullShare c f)
        ∗ ((owns (c : Thread nD τ) arg2 fullShare X ∗ owns (c : Thread nD τ) arg3 fullShare Y ∗ accPts fullShare c (accNext X Y f)) -∗ Q ⟨⟩))
      ⊢ wp frame (wpE (defs₀ (F := F)) 𝒱₀ (c : Thread nD τ) none) Set.univ
        (cc0_body (F := F) i arg1 harg1 arg2 harg2 arg3 harg3 arg4 harg4 accM harg5 comM harg6 cc0_scratch2 cc0_scratch3) Q := by
  simp only [cc0_body_eq_skeleton]
  unfold cc0_body_skel
  simp only [k0_part3_eq_skeleton]
  unfold k0_part3_skel
  simp only [dif_neg h1, dif_neg h2, Prog.lift, Prog.bind_op, Prog.bind_ret, Prog.pure_eq_ret, Prog.bind_assoc, wp_deviceId]
  iintro ⟨⟨HX, HY, Hf⟩, HQ⟩
  iapply (load_owns c arg2 zero2 inb_S512x2048_S512x2048_0_0 X) $$ HX
  iintro HX
  iapply (load_owns c arg3 zero2 inb_S512x2048_S512x2048_0_0 Y) $$ HY
  iintro HY
  iapply (load_acc c zero2 inb_S2x2048_S2x2048_0_0 f) $$ Hf
  iintro Hf
  iapply (load_acc c zero2 inb_S2x2048_S2x2048_0_0 f) $$ Hf
  iintro Hf
  iapply (store_acc c zero2 inb_S2x2048_S2x2048_0_0 f) $$ Hf
  iintro Hf
  rw [wp_ret]
  imodintro
  iapply HQ
  isplitl [HX]; · iexact HX
  isplitl [HY]; · iexact HY
  iexact Hf

/-- The first point: the running sum starts at zero, each peer is handed its slot, and the block is added. -/
theorem run_first (h1 : k0_cond1 i = 1#1) (h2 : ¬ k0_cond2 i = 1#1) (g : S3x2x2048.Idx → Elt F .f32) (W : Waits sig Unit) (Q : PUnit → sProp 𝕄) :
    iprop((recs tot K ∗ signals c ∗ owns (c : Thread nD τ) arg2 fullShare X ∗ owns (c : Thread nD τ) arg3 fullShare Y
          ∗ accPts fullShare c f ∗ (B3 fun j => slotPts j c g) ∗ owes (c : Thread nD τ) (O₀ c) W)
        ∗ ((owns (c : Thread nD τ) arg2 fullShare X ∗ owns (c : Thread nD τ) arg3 fullShare Y
            ∗ accPts fullShare c (accNext X Y k0_pay4) ∗ owes (c : Thread nD τ) (Ocopy c) W) -∗ Q ⟨⟩))
      ⊢ wp frame (wpE (defs₀ (F := F)) 𝒱₀ (c : Thread nD τ) none) Set.univ
        (cc0_body (F := F) i arg1 harg1 arg2 harg2 arg3 harg3 arg4 harg4 accM harg5 comM harg6 cc0_scratch2 cc0_scratch3) Q := by
  simp only [cc0_body_eq_skeleton]
  unfold cc0_body_skel
  simp only [k0_part3_eq_skeleton]
  unfold k0_part3_skel
  simp only [dif_pos h1, dif_neg h2, semSignalWord, Prog.lift, Prog.bind_op, Prog.bind_ret, Prog.pure_eq_ret, Prog.bind_assoc, wp_deviceId]
  unfold signals O₀
  iintro ⟨⟨#HR, ⟨⟨#Hr0, #Hr1, #Hr2⟩, Ht0, Ht1, Ht2⟩, HX, HY, Hf, ⟨Hg0, Hg1, Hg2⟩, HO⟩, HQ⟩
  iapply (load_acc c zero2 inb_S2x2048_S2x2048_0_0 f) $$ Hf
  iintro Hf
  iapply (store_acc c zero2 inb_S2x2048_S2x2048_0_0 f) $$ Hf
  iintro Hf
  iapply (step_signal tot K c _ 0 (dev1_eq i h1 c) (Ocopy c + owB c 2 + owB c 1) g) $$ [HO Ht0 Hg0]
  · isplitr; · iapply (recs_bar tot K) $$ HR
    isplitl [HO]; · iexact HO
    isplitl [Ht0]; · iexact Ht0
    isplitr; · iapply (recs_open tot K) $$ HR
    isplitl [Hg0]; · iexact Hg0
    iexact Hr0
  iintro HO
  iapply (step_signal tot K c _ 1 (dev2_eq i h1 c) (Ocopy c + owB c 2) g) $$ [HO Ht1 Hg1]
  · isplitr; · iapply (recs_bar tot K) $$ HR
    isplitl [HO]; · iexact HO
    isplitl [Ht1]; · iexact Ht1
    isplitr; · iapply (recs_open tot K) $$ HR
    isplitl [Hg1]; · iexact Hg1
    iexact Hr1
  iintro HO
  iapply (step_signal tot K c _ 2 (dev3_eq i h1 c) (Ocopy c) g) $$ [HO Ht2 Hg2]
  · isplitr; · iapply (recs_bar tot K) $$ HR
    isplitl [HO]; · iexact HO
    isplitl [Ht2]; · iexact Ht2
    isplitr; · iapply (recs_open tot K) $$ HR
    isplitl [Hg2]; · iexact Hg2
    iexact Hr2
  iintro HO
  iapply (load_owns c arg2 zero2 inb_S512x2048_S512x2048_0_0 X) $$ HX
  iintro HX
  iapply (load_owns c arg3 zero2 inb_S512x2048_S512x2048_0_0 Y) $$ HY
  iintro HY
  iapply (load_acc c zero2 inb_S2x2048_S2x2048_0_0 k0_pay4) $$ Hf
  iintro Hf
  iapply (load_acc c zero2 inb_S2x2048_S2x2048_0_0 k0_pay4) $$ Hf
  iintro Hf
  iapply (store_acc c zero2 inb_S2x2048_S2x2048_0_0 k0_pay4) $$ Hf
  iintro Hf
  rw [wp_ret]
  imodintro
  iapply HQ
  isplitl [HX]; · iexact HX
  isplitl [HY]; · iexact HY
  isplitl [Hf]; · iexact Hf
  iexact HO

/-- The last point: the block is added, the sums are exchanged and the result is written. -/
theorem run_last (h1 : ¬ k0_cond1 i = 1#1) (h2 : k0_cond2 i = 1#1) (hf : accNext X Y f = tot c) (Z : S2x2048.Idx → Elt F .f32)
    (W : Waits sig Unit) (Q : PUnit → sProp 𝕄) :
    iprop((recs tot K ∗ levAts L lv ∗ kept c ∗ owns (c : Thread nD τ) arg2 fullShare X ∗ owns (c : Thread nD τ) arg3 fullShare Y
          ∗ owns (c : Thread nD τ) arg4 fullShare Z ∗ accPts fullShare c f ∗ owes (c : Thread nD τ) (Ocopy c) W)
        ∗ ((owns (c : Thread nD τ) arg2 fullShare X ∗ owns (c : Thread nD τ) arg3 fullShare Y
            ∗ owns (c : Thread nD τ) arg4 fullShare (outOf tot c) ∗ accPts fullShare c (tot c) ∗ (B3 fun j => slotPts j c (gath tot c))
            ∗ semVal (barCell c) 0 ∗ zeros c ∗ ∃ W, owes (c : Thread nD τ) 0 W) -∗ Q ⟨⟩))
      ⊢ wp frame (wpE (defs₀ (F := F)) 𝒱₀ (c : Thread nD τ) none) Set.univ
        (cc0_body (F := F) i arg1 harg1 arg2 harg2 arg3 harg3 arg4 harg4 accM harg5 comM harg6 cc0_scratch2 cc0_scratch3) Q := by
  simp only [cc0_body_eq_skeleton]
  unfold cc0_body_skel
  simp only [k0_part3_eq_skeleton, k0_part1_eq_skeleton, k0_part2_eq_skeleton]
  unfold k0_part3_skel k0_part1_skel k0_part2_skel
  simp only [dif_neg h1, dif_pos h2, semWaitWord, Prog.lift, Prog.bind_op, Prog.bind_ret, Prog.pure_eq_ret, Prog.bind_assoc, wp_deviceId]
  iintro ⟨⟨#HR, #Hlev, Hk, HX, HY, HZ, Hf, HO⟩, HQ⟩
  iapply (load_owns c arg2 zero2 inb_S512x2048_S512x2048_0_0 X) $$ HX
  iintro HX
  iapply (load_owns c arg3 zero2 inb_S512x2048_S512x2048_0_0 Y) $$ HY
  iintro HY
  iapply (load_acc c zero2 inb_S2x2048_S2x2048_0_0 f) $$ Hf
  iintro Hf
  iapply (load_acc c zero2 inb_S2x2048_S2x2048_0_0 f) $$ Hf
  iintro Hf
  iapply (store_acc c zero2 inb_S2x2048_S2x2048_0_0 f) $$ Hf
  iintro Hf
  unfold kept
  icases Hk with ⟨HaB, ⟨HaS0, HaS1, HaS2⟩, ⟨HaR0, HaR1, HaR2⟩, ⟨#HrS0, #HrS1, #HrS2⟩, ⟨HtS0, HtS1, HtS2⟩, ⟨HtR0, HtR1, HtR2⟩, HcB, HcR0, HcR1, HcR2⟩
  iapply (step_bar tot K c) $$ [HcB HO HaB]
  · isplitr; · iapply (recs_bar tot K) $$ HR
    isplitl [HcB]; · iexact HcB
    isplitl [HO]; · iexact HO
    isplitr; · iexact Hlev
    iexact HaB
  iintro ⟨HO, HaB, HP⟩
  unfold barPay
  icases HP with ⟨⟨⟨%g0, Hg0⟩, #Hq0⟩, ⟨⟨%g1, Hg1⟩, #Hq1⟩, ⟨%g2, Hg2⟩, #Hq2⟩
  ihave Hf := (Entails.of_eq (show (accPts fullShare c (k0_pay1 (k0_pay6 Y) (k0_pay8 X) (k0_pay9 X) f) : sProp 𝕄) = accPts fullShare c (tot c) from
    congrArg (fun v => accPts fullShare c v) hf)) $$ Hf
  ihave Hf := (acc_split c (tot c)).1 $$ Hf
  icases Hf with ⟨⟨Hf0, Hf1⟩, Hf2, Hf3⟩
  unfold Ocopy
  iapply (step_send tot K c _ 0 (dev4_eq i h2 c) (0 + owR c 2 + owR c 1) g0) $$ [Hf0 Hg0 HO HtS0 HtR0]
  · isplitr; · iapply (recs_send tot K) $$ HR
    isplitr; · iapply (recs_recv tot K) $$ HR
    isplitl [Hf0]; · iexact Hf0
    isplitl [Hg0]; · iexact Hg0
    isplitl [HO]; · iexact HO
    isplitl [HtS0]; · iexact HtS0
    isplitr; · iexact HrS0
    isplitl [HtR0]; · iexact HtR0
    iexact Hq0
  iintro ⟨HcS0, HO⟩
  iapply (step_send tot K c _ 1 (dev5_eq i h2 c) (0 + owR c 2) g1) $$ [Hf1 Hg1 HO HtS1 HtR1]
  · isplitr; · iapply (recs_send tot K) $$ HR
    isplitr; · iapply (recs_recv tot K) $$ HR
    isplitl [Hf1]; · iexact Hf1
    isplitl [Hg1]; · iexact Hg1
    isplitl [HO]; · iexact HO
    isplitl [HtS1]; · iexact HtS1
    isplitr; · iexact HrS1
    isplitl [HtR1]; · iexact HtR1
    iexact Hq1
  iintro ⟨HcS1, HO⟩
  iapply (step_send tot K c _ 2 (dev6_eq i h2 c) 0 g2) $$ [Hf2 Hg2 HO HtS2 HtR2]
  · isplitr; · iapply (recs_send tot K) $$ HR
    isplitr; · iapply (recs_recv tot K) $$ HR
    isplitl [Hf2]; · iexact Hf2
    isplitl [Hg2]; · iexact Hg2
    isplitl [HO]; · iexact HO
    isplitl [HtS2]; · iexact HtS2
    isplitr; · iexact HrS2
    isplitl [HtR2]; · iexact HtR2
    iexact Hq2
  iintro ⟨HcS2, HO⟩
  iapply (step_recv tot K c 0) $$ [HcR0 HO HaR0]
  · isplitr; · iapply (recs_recv tot K) $$ HR
    isplitl [HcR0]; · iexact HcR0
    isplitl [HO]; · iexact HO
    iexact HaR0
  iintro ⟨HO, HaR0, Hg0⟩
  iapply (step_recv tot K c 1) $$ [HcR1 HO HaR1]
  · isplitr; · iapply (recs_recv tot K) $$ HR
    isplitl [HcR1]; · iexact HcR1
    isplitl [HO]; · iexact HO
    iexact HaR1
  iintro ⟨HO, HaR1, Hg1⟩
  iapply (step_recv tot K c 2) $$ [HcR2 HO HaR2]
  · isplitr; · iapply (recs_recv tot K) $$ HR
    isplitl [HcR2]; · iexact HcR2
    isplitl [HO]; · iexact HO
    iexact HaR2
  iintro ⟨HO, HaR2, Hg2⟩
  iapply (load_acc c zero2 inb_S2x2048_S2x2048_0_0 (tot c)) $$ Hf3
  iintro Hf3
  iapply (load_slot c 0 rfl inb_S3x2x2048_S1x2x2048_0_0_0 (gath tot c)) $$ Hg0
  iintro Hg0
  iapply (load_slot c 1 rfl inb_S3x2x2048_S1x2x2048_1_0_0 (gath tot c)) $$ Hg1
  iintro Hg1
  iapply (load_slot c 2 rfl inb_S3x2x2048_S1x2x2048_2_0_0 (gath tot c)) $$ Hg2
  iintro Hg2
  iapply (load_owns c arg4 zero2 inb_S2x2048_S2x2048_0_0 Z) $$ HZ
  iintro HZ
  iapply (store_owns c arg4 zero2 inb_S2x2048_S2x2048_0_0 Z) $$ HZ
  iintro HZ
  iapply (step_sent tot K c 0) $$ [HcS0 HO HaS0]
  · isplitr; · iapply (recs_send tot K) $$ HR
    isplitl [HcS0]; · iexact HcS0
    isplitl [HO]; · iexact HO
    iexact HaS0
  iintro ⟨HO, HaS0, Hf0⟩
  iapply (step_sent tot K c 1) $$ [HcS1 HO HaS1]
  · isplitr; · iapply (recs_send tot K) $$ HR
    isplitl [HcS1]; · iexact HcS1
    isplitl [HO]; · iexact HO
    iexact HaS1
  iintro ⟨HO, HaS1, Hf1⟩
  iapply (step_sent tot K c 2) $$ [HcS2 HO HaS2]
  · isplitr; · iapply (recs_send tot K) $$ HR
    isplitl [HcS2]; · iexact HcS2
    isplitl [HO]; · iexact HO
    iexact HaS2
  iintro ⟨HO, HaS2, Hf2⟩
  rw [wp_ret]
  imod (close tot (K (barCell c)) (barCell c)) $$ [HaB] with HB
  · isplitr; · iapply (recs_bar tot K) $$ HR
    iexact HaB
  imod (close tot (K (sCell c 0)) (sCell c 0)) $$ [HaS0] with HS0
  · isplitr; · iapply (recs_send tot K) $$ HR
    iexact HaS0
  imod (close tot (K (sCell c 1)) (sCell c 1)) $$ [HaS1] with HS1
  · isplitr; · iapply (recs_send tot K) $$ HR
    iexact HaS1
  imod (close tot (K (sCell c 2)) (sCell c 2)) $$ [HaS2] with HS2
  · isplitr; · iapply (recs_send tot K) $$ HR
    iexact HaS2
  imod (close tot (K (rCell c 0)) (rCell c 0)) $$ [HaR0] with HR0
  · isplitr; · iapply (recs_recv tot K) $$ HR
    iexact HaR0
  imod (close tot (K (rCell c 1)) (rCell c 1)) $$ [HaR1] with HR1
  · isplitr; · iapply (recs_recv tot K) $$ HR
    iexact HaR1
  imod (close tot (K (rCell c 2)) (rCell c 2)) $$ [HaR2] with HR2
  · isplitr; · iapply (recs_recv tot K) $$ HR
    iexact HaR2
  imodintro
  iapply HQ
  isplitl [HX]; · iexact HX
  isplitl [HY]; · iexact HY
  isplitl [HZ]; · iexact HZ
  isplitl [Hf0 Hf1 Hf2 Hf3]
  · iapply (acc_split c (tot c)).2
    isplitl [Hf0 Hf1]; · isplitl [Hf0] <;> iassumption
    isplitl [Hf2] <;> iassumption
  isplitl [Hg0 Hg1 Hg2]
  · isplitl [Hg0]; · iexact Hg0
    isplitl [Hg1] <;> iassumption
  isplitl [HB]; · iexact HB
  isplitr [HO]
  · unfold zeros
    isplitl [HS0 HS1 HS2]
    · isplitl [HS0]; · iexact HS0
      isplitl [HS1] <;> iassumption
    · isplitl [HR0]; · iexact HR0
      isplitl [HR1] <;> iassumption
  iexists _; iexact HO

end Runs

end Cert.Stage
-- ==== Proof.Data.lean ====
/-
# The pipeline's data

The prefetched table a device computes, the blocks it selects, the running sums over them, and what holds between grid
points.
-/
module

public import Idealize.ShloMosaic.Lib.Pipeline.FrameBody
public import proofs.«01_k».proof.Proof.Body

@[expose] public section

noncomputable section

namespace Cert.Stage

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The table -/

/-- The table of device `c` holds its place along the second mesh axis, -/
def tblOf (c : Dev nD) : pre0.Contents (Elt F) := fun k => match k with
  | 0 => fun _ => BitVec.ofNat 32 (c.val % 2)
  | ⟨_ + 1, h⟩ => absurd h (Nat.not_lt.2 (Nat.le_add_left _ _))

theorem tbl_index0 (c : Dev nD) (i : grid0.Coords) :
    cc0_transform_0 (F := F) Facts₀.inb_S1_S1_0 Facts₀.numel1_S1 (tblOf c) i = ![4 * (c.val % 2) + (i 0).val, 0] := by
  have hc : c.val < 4 := c.isLt
  have hi : (i 0).val < 4 := (i 0).isLt
  have e : (BitVec.ofNat 32 (c.val % 2) * 4#32 + BitVec.ofNat 32 (i 0).val).toNat = 4 * (c.val % 2) + (i 0).val := by
    simp only [BitVec.toNat_add, BitVec.toNat_mul, BitVec.toNat_ofNat]; omega
  funext a
  fin_cases a
  · exact e
  · rfl
theorem tbl_index1 (c : Dev nD) (i : grid0.Coords) :
    cc0_transform_1 (F := F) Facts₀.inb_S1_S1_0 Facts₀.numel1_S1 (tblOf c) i = ![4 * (c.val % 2) + (i 0).val, 0] :=
  tbl_index0 c i

/-- which selects blocks inside the arrays. -/
theorem tbl_ok (c : Dev nD) : ok0 (F := F) (tblOf c) := by
  have key : ∀ (k : ℕ), k < 8 → ∃ h : (∀ a, ((![k, 0] : Fin 2 → ℕ) a + 1) * S512x2048.size a ≤ S4096x2048.size a),
      EltTy.bits .bf16 = 32 ∨ (Rect.block (s := S4096x2048) S512x2048.size ![k, 0] h).WholeWords (EltTy.packing .bf16) := by
    decide +kernel
  have hb : ∀ i : grid0.Coords, 4 * (c.val % 2) + (i 0).val < 8 := fun i => by
    have hi : (i 0).val < 4 := (i 0).isLt
    omega
  unfold ok0
  refine ⟨fun i => ?_, fun i => ?_⟩
  · rw [tbl_index0]; exact key _ (hb i)
  · rw [tbl_index1]; exact key _ (hb i)

abbrev adm (c : Dev nD) (p : Fin 1) : (pcfgs (F := F) p).Adm := ⟨tblOf c, tbl_ok c⟩
abbrev cfgOf (c : Dev nD) : Pipeline.Cfg sig Λ₀ := cfg0 (F := F) (adm c 0)

variable (m : (ℓ : Loc nD τ sig) → Buf (Elt F) ℓ)

/-- The host's table is that table. -/
theorem tbl_eq (c : Dev nD) : V1 m c (Proc.devRef .tc main_v5) = tblOf (F := F) c 0 := by
  have key : ∀ c : Dev nD, IntOp.remui .host (IntOp.divui .host (Dev.word c) 1#32) 2#32 = BitVec.ofNat 32 (c.val % 2) := by decide
  after_results
  funext x
  exact key c

/-! ## Blocks and running sums -/

/-- The block of the first (second) array at point `t`. -/
def xAt (c : Dev nD) (t : Fin grid0.N) : S512x2048.Idx → Elt F .bf16 :=
  ((((cfgOf (F := F) c).win 0).blk t).view.read (Elt F) (V1 m c (Proc.devRef .tc main_arg0)))
def yAt (c : Dev nD) (t : Fin grid0.N) : S512x2048.Idx → Elt F .bf16 :=
  ((((cfgOf (F := F) c).win 1).blk t).view.read (Elt F) (V1 m c (Proc.devRef .tc main_arg1)))

/-- The running sum after each point. -/
def acc1 (c : Dev nD) : FVec F S2x2048 .f32 := accNext (xAt m c t0_0) (yAt m c t0_0) k0_pay4
def acc2 (c : Dev nD) : FVec F S2x2048 .f32 := accNext (xAt m c t0_1) (yAt m c t0_1) (acc1 m c)
def acc3 (c : Dev nD) : FVec F S2x2048 .f32 := accNext (xAt m c t0_2) (yAt m c t0_2) (acc2 m c)
def total (c : Dev nD) : FVec F S2x2048 .f32 := accNext (xAt m c t0_3) (yAt m c t0_3) (acc3 m c)

/-! ## Between the points -/

/-- What the region is handed: the records, the rights, the levels. -/
def opened (c : Dev nD) : sProp 𝕄 := iprop((∃ K, recs (total m) K ∗ kept c ∗ signals c) ∗ levAts L lv)
def midway (c : Dev nD) : sProp 𝕄 := iprop((∃ K, recs (total m) K ∗ kept c) ∗ levAts L lv)

/-- The table, untouched throughout. -/
def tblHeld (c : Dev nD) : sProp 𝕄 := Pipeline.prefHeld (pcfgs (F := F) 0).pre c (fun _ => fullShare) (adm c 0).1

/-- The body's invariant: at first both scratch buffers hold anything; between the points the running sum is named; at the
    end every counter is back at zero. -/
def inv (c : Dev nD) : ℕ → sProp 𝕄
  | 0 => iprop(tblHeld c ∗ opened m c ∗ (∃ f, accPts fullShare c f) ∗ (∃ g, B3 fun j => slotPts j c g))
  | 1 => iprop(tblHeld c ∗ midway m c ∗ accPts fullShare c (acc1 m c))
  | 2 => iprop(tblHeld c ∗ midway m c ∗ accPts fullShare c (acc2 m c))
  | 3 => iprop(tblHeld c ∗ midway m c ∗ accPts fullShare c (acc3 m c))
  | _ => iprop(tblHeld c ∗ accPts fullShare c (total m c) ∗ (B3 fun j => slotPts j c (gath (total m) c)) ∗ semVal (barCell c) 0 ∗ zeros c)

/-- What is still owed. -/
def owing (c : Dev nD) : ℕ → CellTallies nD τ sig Unit
  | 0 => O₀ c
  | 1 => Ocopy c
  | 2 => Ocopy c
  | 3 => Ocopy c
  | _ => 0

abbrev dat (c : Dev nD) : Pipeline.Dat τ (Elt F) Unit ℕ UU ℕ (cfgOf (F := F) c) c where
  A := fun w => V1 m c (Proc.devRef .tc (Pipeline.arrRef spec0 w))
  after := fun w => match w with
    | 0 => fun t => xAt m c t
    | 1 => fun t => yAt m c t
    | 2 => fun _ => outOf (total m) c
    | ⟨_ + 3, h⟩ => absurd h (Nat.not_lt.2 (Nat.le_add_left _ _))
  Φ := fun t => inv m c t.val
  q := fun _ => fullShare
  owed := fun t => owing c t.val

abbrev pdats (p : Fin 1) (c : Dev nD) : Pipeline.Dat τ (Elt F) Unit ℕ UU ℕ (Pipeline.pinD (pcfgs (F := F)) adm c p) c := dat m c

/-- An input's buffer holds its block at every point. -/
theorem before0 (c : Dev nD) (t : Fin grid0.N) (d) : (dat m c).before 0 t d = xAt m c t :=
  (dat m c).before_in_eq_fetched 0 rfl (fun _ => rfl) (fun _ _ _ => rfl) (fun _ => rfl) t d
theorem before1 (c : Dev nD) (t : Fin grid0.N) (d) : (dat m c).before 1 t d = yAt m c t :=
  (dat m c).before_in_eq_fetched 1 rfl (fun _ => rfl) (fun _ _ _ => rfl) (fun _ => rfl) t d

end Cert.Stage
-- ==== Proof.Oblig.lean ====
/-
# The body meets the pipeline's data

At each of the four points the body's run takes what holds before the point to what holds after it.
-/
module

public import proofs.«01_k».proof.Proof.Data

@[expose] public section

noncomputable section

namespace Cert.Stage

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Where the body's branches go -/

theorem first0 : k0_cond1 (grid0.coords t0_0) = 1#1 := by decide
theorem last0 : ¬ k0_cond2 (grid0.coords t0_0) = 1#1 := by decide
theorem first1 : ¬ k0_cond1 (grid0.coords t0_1) = 1#1 := by decide
theorem last1 : ¬ k0_cond2 (grid0.coords t0_1) = 1#1 := by decide
theorem first2 : ¬ k0_cond1 (grid0.coords t0_2) = 1#1 := by decide
theorem last2 : ¬ k0_cond2 (grid0.coords t0_2) = 1#1 := by decide
theorem first3 : ¬ k0_cond1 (grid0.coords t0_3) = 1#1 := by decide
theorem last3 : k0_cond2 (grid0.coords t0_3) = 1#1 := by decide

theorem owesAt_elim (c : Dev nD) (t : Fin (grid0.N + 1)) :
    (dat m c).owesAt () t ⊢ (iprop(∃ W, owes (c : Thread nD τ) (owing c t.val) W) : sProp 𝕄) := by
  unfold Pipeline.Dat.owesAt Pipeline.owesWithin
  iintro ⟨%W, -, H⟩
  iexists W; iexact H
theorem owesAt_intro (c : Dev nD) (t : Fin (grid0.N + 1)) (O) (h : owing c t.val = O) (W : Waits sig Unit) :
    (owes (c : Thread nD τ) O W : sProp 𝕄) ⊢ (dat m c).owesAt () t := by
  subst h
  unfold Pipeline.Dat.owesAt Pipeline.owesWithin Pipeline.Dat.bound
  iintro H
  iexists W; isplitr
  · ipureintro; exact fun _ _ => Or.inl trivial
  iexact H

/-- Away from the last point the result's buffer is handed back as it was found. -/
theorem keep2 (c : Dev nD) (t : Fin grid0.N) (hi : idle0 2 (grid0.coords t) = true) (hf : ((cfgOf (F := F) c).win 2).flush t = false) :
    (iprop(∃ d, owns (c : Thread nD τ) (stage0_2 ((cfgOf (F := F) c).slots t 2)) fullShare ((dat m c).before 2 t d)) : sProp 𝕄)
      ⊢ (dat m c).leavesExact 2 t := by
  rw [(dat m c).leavesExact_idle 2 t hi hf]
  exact .rfl

theorem idle_3 : idle0 2 (grid0.coords t0_3) = false := by decide

/-- At the last point it holds the result. -/
theorem wrote2 (c : Dev nD) (t : Fin grid0.N) (hi : idle0 2 (grid0.coords t) = false) :
    (owns (c : Thread nD τ) (spec0_2.stage ((cfgOf (F := F) c).slots t 2)) fullShare (outOf (total m) c) : sProp 𝕄)
      ⊢ (dat m c).leavesExact 2 t := by
  have hi' : (cfgOf (F := F) c).idle 2 ((cfgOf (F := F) c).grid.coords t) = false := hi
  unfold Pipeline.Dat.leavesExact
  rw [hi']
  exact .rfl

theorem idle_0 : idle0 2 (grid0.coords t0_0) = true := by decide
theorem idle_1 : idle0 2 (grid0.coords t0_1) = true := by decide
theorem idle_2 : idle0 2 (grid0.coords t0_2) = true := by decide
theorem flush_0 (c : Dev nD) : ((cfgOf (F := F) c).win 2).flush t0_0 = false := rfl
theorem flush_1 (c : Dev nD) : ((cfgOf (F := F) c).win 2).flush t0_1 = false := rfl
theorem flush_2 (c : Dev nD) : ((cfgOf (F := F) c).win 2).flush t0_2 = false := rfl

theorem inv_0 (c : Dev nD) {n : ℕ} (h : n = 0) : inv m c n ⊢ (iprop(tblHeld c ∗ ((∃ K, recs (total m) K ∗ kept c ∗ signals c) ∗ levAts L lv)
    ∗ (∃ f, accPts fullShare c f) ∗ (∃ g, B3 fun j => slotPts j c g)) : sProp 𝕄) := by subst h; exact .rfl
theorem inv_1 (c : Dev nD) {n : ℕ} (h : n = 1) : (iprop(tblHeld c ∗ midway m c ∗ accPts fullShare c (acc1 m c)) : sProp 𝕄) ⊣⊢ inv m c n := by subst h; exact ⟨.rfl, .rfl⟩
theorem inv_2 (c : Dev nD) {n : ℕ} (h : n = 2) : (iprop(tblHeld c ∗ midway m c ∗ accPts fullShare c (acc2 m c)) : sProp 𝕄) ⊣⊢ inv m c n := by subst h; exact ⟨.rfl, .rfl⟩
theorem inv_3 (c : Dev nD) {n : ℕ} (h : n = 3) : (iprop(tblHeld c ∗ midway m c ∗ accPts fullShare c (acc3 m c)) : sProp 𝕄) ⊣⊢ inv m c n := by subst h; exact ⟨.rfl, .rfl⟩
theorem inv_4 (c : Dev nD) {n : ℕ} (h : n = 4) : (iprop(tblHeld c ∗ accPts fullShare c (total m c) ∗ (B3 fun j => slotPts j c (gath (total m) c))
    ∗ semVal (barCell c) 0 ∗ zeros c) : sProp 𝕄) ⊣⊢ inv m c n := by subst h; exact ⟨.rfl, .rfl⟩

set_option backward.isDefEq.respectTransparency.types false in
theorem oblig (c : Dev nD) : Pipeline.BodyObligation (dat m c) (defs₀ (F := F)) 𝒱₀ () Set.univ := by
  intro t
  rw [bigSep_W0, bigSep_W0]
  rcases fin_N0 t with rfl | rfl | rfl | rfl
  · simp only [before0, before1]
    iintro ⟨HΦ, HO, ⟨%d0, HX⟩, ⟨%d1, HY⟩, HZ⟩
    ihave HΦ := (inv_0 m c (n := (t0_0 : Fin grid0.N).castSucc.val) rfl) $$ HΦ
    icases HΦ with ⟨HT, ⟨⟨%K, #HR, Hk, Hs⟩, Hl⟩, ⟨%f, Hf⟩, ⟨%g, Hg⟩⟩
    ihave HO := (owesAt_elim m c _) $$ HO
    icases HO with ⟨%W, HO⟩
    iapply (run_first (total m) K c (grid0.coords t0_0) _ _ _ _ _ _ _ _ _ _ (xAt m c t0_0) (yAt m c t0_0) f first0 last0 g W _)
    isplitl [Hs HX HY Hf Hg HO]
    · isplitr; · iexact HR
      isplitl [Hs]; · iexact Hs
      isplitl [HX]; · iexact HX
      isplitl [HY]; · iexact HY
      isplitl [Hf]; · iexact Hf
      isplitl [Hg]; · iexact Hg
      iexact HO
    iintro ⟨HX, HY, Hf, HO⟩
    isplitl [HT Hk Hl Hf]
    · iapply (inv_1 m c (n := (t0_0 : Fin grid0.N).succ.val) rfl).1
      unfold midway
      isplitl [HT]; · iexact HT
      isplitl [Hk Hl]
      · isplitl [Hk]
        · iexists K
          isplitr; · iexact HR
          iexact Hk
        iexact Hl
      iexact Hf
    isplitl [HO]; · iapply (owesAt_intro m c (t0_0 : Fin grid0.N).succ (Ocopy c) rfl W) $$ HO
    isplitl [HX]; · iexact HX
    isplitl [HY]; · iexact HY
    iapply (keep2 m c t0_0 idle_0 (flush_0 c))
    iexact HZ
  · simp only [before0, before1]
    iintro ⟨HΦ, HO, ⟨%d0, HX⟩, ⟨%d1, HY⟩, HZ⟩
    ihave HΦ := (inv_1 m c (n := (t0_1 : Fin grid0.N).castSucc.val) rfl).2 $$ HΦ
    icases HΦ with ⟨HT, HM, Hf⟩
    iapply (run_mid c (grid0.coords t0_1) _ _ _ _ _ _ _ _ _ _ (xAt m c t0_1) (yAt m c t0_1) (acc1 m c) first1 last1 _)
    isplitl [HX HY Hf]
    · isplitl [HX]; · iexact HX
      isplitl [HY]; · iexact HY
      iexact Hf
    iintro ⟨HX, HY, Hf⟩
    isplitl [HT HM Hf]
    · iapply (inv_2 m c (n := (t0_1 : Fin grid0.N).succ.val) rfl).1
      isplitl [HT]; · iexact HT
      isplitl [HM]; · iexact HM
      iexact Hf
    isplitl [HO]; · iexact HO
    isplitl [HX]; · iexact HX
    isplitl [HY]; · iexact HY
    iapply (keep2 m c t0_1 idle_1 (flush_1 c))
    iexact HZ
  · simp only [before0, before1]
    iintro ⟨HΦ, HO, ⟨%d0, HX⟩, ⟨%d1, HY⟩, HZ⟩
    ihave HΦ := (inv_2 m c (n := (t0_2 : Fin grid0.N).castSucc.val) rfl).2 $$ HΦ
    icases HΦ with ⟨HT, HM, Hf⟩
    iapply (run_mid c (grid0.coords t0_2) _ _ _ _ _ _ _ _ _ _ (xAt m c t0_2) (yAt m c t0_2) (acc2 m c) first2 last2 _)
    isplitl [HX HY Hf]
    · isplitl [HX]; · iexact HX
      isplitl [HY]; · iexact HY
      iexact Hf
    iintro ⟨HX, HY, Hf⟩
    isplitl [HT HM Hf]
    · iapply (inv_3 m c (n := (t0_2 : Fin grid0.N).succ.val) rfl).1
      isplitl [HT]; · iexact HT
      isplitl [HM]; · iexact HM
      iexact Hf
    isplitl [HO]; · iexact HO
    isplitl [HX]; · iexact HX
    isplitl [HY]; · iexact HY
    iapply (keep2 m c t0_2 idle_2 (flush_2 c))
    iexact HZ
  · simp only [before0, before1]
    iintro ⟨HΦ, HO, ⟨%d0, HX⟩, ⟨%d1, HY⟩, ⟨%d2, HZ⟩⟩
    ihave HΦ := (inv_3 m c (n := (t0_3 : Fin grid0.N).castSucc.val) rfl).2 $$ HΦ
    unfold midway
    icases HΦ with ⟨HT, ⟨⟨%K, #HR, Hk⟩, Hl⟩, Hf⟩
    ihave HO := (owesAt_elim m c _) $$ HO
    icases HO with ⟨%W, HO⟩
    iapply (run_last (total m) K c (grid0.coords t0_3) _ _ _ _ _ _ _ _ _ _ (xAt m c t0_3) (yAt m c t0_3) (acc3 m c) first3 last3 rfl
      ((dat m c).before 2 t0_3 d2) W _)
    isplitl [Hk Hl HX HY HZ Hf HO]
    · isplitr; · iexact HR
      isplitl [Hl]; · iexact Hl
      isplitl [Hk]; · iexact Hk
      isplitl [HX]; · iexact HX
      isplitl [HY]; · iexact HY
      isplitl [HZ]; · iexact HZ
      isplitl [Hf]; · iexact Hf
      iexact HO
    iintro ⟨HX, HY, HZ, Hf, Hg, Hb, Hz, ⟨%W', HO⟩⟩
    isplitl [HT Hf Hg Hb Hz]
    · iapply (inv_4 m c (n := (t0_3 : Fin grid0.N).succ.val) rfl).1
      isplitl [HT]; · iexact HT
      isplitl [Hf]; · iexact Hf
      isplitl [Hg]; · iexact Hg
      isplitl [Hb]; · iexact Hb
      iexact Hz
    isplitl [HO]; · iapply (owesAt_intro m c (t0_3 : Fin grid0.N).succ 0 rfl W') $$ HO
    isplitl [HX]; · iexact HX
    isplitl [HY]; · iexact HY
    iapply (wrote2 m c t0_3 idle_3) $$ HZ

end Cert.Stage
-- ==== Proof.Region.lean ====
/-
# The call as one region

From the buffers after the host's operations, and the rights dealt at launch, the call runs to the same buffers with the
result's replaced, every counter back at zero.
-/
module

public import Idealize.ShloMosaic.Lib.Pipeline.Regions
public import Idealize.ShloMosaic.Lib.Pipeline.RegionArrays
public import Idealize.ShloMosaic.Lib.Pipeline.RegionArraysT
public import Idealize.ShloMosaic.Lib.Pipeline.ValueKit.Geometry
public import proofs.«01_k».proof.Proof.Oblig

@[expose] public section

noncomputable section

namespace Cert.Stage

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The buffers -/

/-- A device's buffers at the end: the result replaced. -/
def Vend (c : Dev nD) : Valuation τ sig (Elt F) := Function.update (V1 m c) (Proc.devRef .tc main_v6) (outOf (total m) c)

theorem Vend_of (c : Dev nD) (r : Ref sig .tc) (h : r ≠ main_v6) : Vend m c (Proc.devRef .tc r) = V1 m c (Proc.devRef .tc r) :=
  Function.update_of_ne (StableHlo.devRef_ne_of_ne h) _ _
theorem Vend_result (c : Dev nD) : Vend m c (Proc.devRef .tc main_v6) = outOf (total m) c := Function.update_self _ _ _

abbrev arrs : Finset (DevRef τ sig) := Pipeline.arrRefs spec0
abbrev tbls : Finset (DevRef τ sig) := Pipeline.tblRefs pre0
abbrev others : Finset (DevRef τ sig) := (Pipeline.ucRefs τ sig \ arrs) \ tbls

/-- The windows' arrays, the table, the rest. -/
theorem held_parts (c : Dev nD) (V : Valuation τ sig (Elt F)) :
    (StableHlo.held (c : Thread nD τ) (Pipeline.ucRefs τ sig) V : sProp 𝕄)
      = iprop(StableHlo.held (c : Thread nD τ) arrs V ∗ StableHlo.held (c : Thread nD τ) tbls V ∗ StableHlo.held (c : Thread nD τ) others V) := by
  rw [StableHlo.held_sub_split (c : Thread nD τ) (T := arrs) (by decide) V, StableHlo.held_sub_split (c : Thread nD τ) (T := tbls) (S := Pipeline.ucRefs τ sig \ arrs)
    (Pipeline.tblRefs_sub_ucRefs_sdiff spec0 pre0 preFacts0.unscoped preFacts0.disj) V]

theorem share_full (c : Dev nD) (w : Fin 3) : (dat m c).share w = fullShare := (dat m c).share_full (fun _ => rfl) w

/-- The arrays at contents `G` are those buffers held at any valuation having them so; -/
theorem arrays_held (c : Dev nD) (V : Valuation τ sig (Elt F))
    (G : (w : Fin 3) → Buf (Elt F) (((cfgOf (F := F) c).win w).arr.view.loc (c : Thread nD τ)))
    (hG : ∀ w, G w = V (Proc.devRef .tc (Pipeline.arrRef spec0 w))) :
    ((dat m c).arrays G : sProp 𝕄) = StableHlo.held (c : Thread nD τ) arrs V := by
  rw [show ((dat m c).arrays G : sProp 𝕄) = _ from
    Pipeline.PerCore.arrays_eq (Pipeline.pinD (pcfgs (F := F)) adm) (pdats m) 0 c arr_whole0 (share_full m c) G]
  unfold StableHlo.held arrs Pipeline.arrRefs
  rw [bigSep_map, show Finset.univ.image (Pipeline.arrRef spec0) = Finset.univ.map ⟨Pipeline.arrRef spec0, winFacts0.arr_inj⟩ from
    (Finset.map_eq_image ⟨Pipeline.arrRef spec0, winFacts0.arr_inj⟩ Finset.univ).symm, bigSep_map]
  exact bigSep_congr fun w _ => by rw [hG]; rfl

theorem tbl_held (c : Dev nD) (V : Valuation τ sig (Elt F)) (h : V (Proc.devRef .tc main_v5) = tblOf (F := F) c 0) :
    (tblHeld (F := F) c : sProp 𝕄) = StableHlo.held (c : Thread nD τ) tbls V :=
  Pipeline.prefHeld_held pre0 preFacts0.inj c (tblOf c) V fun k => by
    rw [Subsingleton.elim k 0]; exact h.symm

theorem last_whole (c : Dev nD) : ((cfgOf (F := F) c).win 2).WholeAt t0_3 := by
  refine ⟨rfl, fun t h => ?_, fun a => ?_⟩
  · rcases fin_N0 t with rfl | rfl | rfl | rfl
    · exact absurd ((flush_0 c).symm.trans h) Bool.false_ne_true
    · exact absurd ((flush_1 c).symm.trans h) Bool.false_ne_true
    · exact absurd ((flush_2 c).symm.trans h) Bool.false_ne_true
    · rfl
  · fin_cases a <;> exact ⟨rfl, rfl⟩

/-- What the arrays hold at the end. -/
theorem arrAt_end (c : Dev nD) (w : Fin 3) :
    (dat m c).arrAt w (cfgOf (F := F) c).N = Vend m c (Proc.devRef .tc (Pipeline.arrRef spec0 w)) := by
  fin_cases w
  · exact ((dat m c).arrAt_in 0 rfl _).trans (Vend_of m c main_arg0 (by decide)).symm
  · exact ((dat m c).arrAt_in 1 rfl _).trans (Vend_of m c main_arg1 (by decide)).symm
  · exact ((dat m c).arrAt_eq_of_after_last 2 t0_3 (last_whole c) (outOf (total m) c) (fun j => rfl)).trans (Vend_result m c).symm

/-! ## The semaphores -/

theorem six (Φ : Fin 6 → sProp 𝕄) : bigSep Finset.univ Φ ⊣⊢ iprop((Φ 0 ∗ Φ 1 ∗ Φ 2) ∗ Φ 3 ∗ Φ 4 ∗ Φ 5) := by
  rw [show (Finset.univ : Finset (Fin 6)) = {0, 1, 2, 3, 4, 5} from by decide, bigSep_insert (by decide), bigSep_insert (by decide),
    bigSep_insert (by decide), bigSep_insert (by decide), bigSep_insert (by decide), bigSep_singleton]
  show iprop(Φ 0 ∗ Φ 1 ∗ Φ 2 ∗ Φ 3 ∗ Φ 4 ∗ Φ 5) ⊣⊢ _
  constructor
  · iintro ⟨H0, H1, H2, H3⟩
    isplitl [H0 H1 H2]
    · isplitl [H0]; · iexact H0
      isplitl [H1] <;> iassumption
    iexact H3
  · iintro ⟨⟨H0, H1, H2⟩, H3⟩
    isplitl [H0]; · iexact H0
    isplitl [H1]; · iexact H1
    isplitl [H2]; · iexact H2
    iexact H3

theorem own_zeros (c : Dev nD) : (Pipeline.ownSems0 osem c : sProp 𝕄) ⊣⊢ zeros c := by
  unfold Pipeline.ownSems0 zeros
  exact six _

/-! ## The rights carried from launch -/

/-- What a device carries from launch to the call: its own cells still closed. -/
def carried (c : Dev nD) : sProp 𝕄 :=
  iprop((∃ K, recs (total m) K) ∗ atPos ER (barCell c) 0 ∅ 0 ∗ (B3 fun j => openTok ER (sCell c j)) ∗ (B3 fun j => openTok ER (rCell c j))
    ∗ (B3 fun j => dutyTok ER (barCell (pr j c)) 0 j) ∗ (B3 fun j => dutyTok ER (sCell c j) 0 j)
    ∗ (B3 fun j => dutyTok ER (rCell (pr j c) j) 0 j) ∗ cred (tallyAt (barCell c) () 3) ∗ (B3 fun j => cred (tallyAt (rCell c j) () N)))

/-- One of its own semaphores joins the exchange. -/
theorem open_own (K : GSem nD τ sig → ℕ) {g : GSem nD τ sig} (hg : g ∈ ownCells) :
    iprop(recs (total m) K ∗ openTok ER g ∗ semVal g 0) ⊢ (|={Set.univ}=> iprop(atPos ER g 0 ∅ 0 ∗ reached ER g 0) : sProp 𝕄) := by
  have e := recs_at (total m) K (Finset.mem_union_right barCells hg)
  iintro ⟨HR, Ho, Hs⟩
  ihave HI := e $$ HR
  imod (Rounds.cell_open ER (talk (total m)) (g := g) (Set.mem_univ (K g))) $$ [HI Ho Hs] with ⟨Hat, Hr⟩
  · isplitl [HI]; · iexact HI
    isplitl [Ho] <;> iassumption
  imodintro
  isplitl [Hat] <;> iassumption

theorem open_all (c : Dev nD) :
    iprop(carried m c ∗ Pipeline.ownSems0 osem c ∗ levAts L lv) ⊢ (|={Set.univ}=> opened m c : sProp 𝕄) := by
  unfold carried opened kept signals
  iintro ⟨⟨⟨%K, #HR⟩, HaB, ⟨Ho0, Ho1, Ho2⟩, ⟨Hp0, Hp1, Hp2⟩, HtB, HtS, HtR, HcB, HcR⟩, Hz, Hl⟩
  ihave Hz := (own_zeros c).1 $$ Hz
  unfold zeros
  icases Hz with ⟨⟨Hs0, Hs1, Hs2⟩, Hq0, Hq1, Hq2⟩
  imod (open_own m K (send_mem c 0)) $$ [Ho0 Hs0] with ⟨Ha0, Hr0⟩
  · isplitr; · iexact HR
    isplitl [Ho0] <;> iassumption
  imod (open_own m K (send_mem c 1)) $$ [Ho1 Hs1] with ⟨Ha1, Hr1⟩
  · isplitr; · iexact HR
    isplitl [Ho1] <;> iassumption
  imod (open_own m K (send_mem c 2)) $$ [Ho2 Hs2] with ⟨Ha2, Hr2⟩
  · isplitr; · iexact HR
    isplitl [Ho2] <;> iassumption
  imod (open_own m K (recv_mem c 0)) $$ [Hp0 Hq0] with ⟨Hb0, Hu0⟩
  · isplitr; · iexact HR
    isplitl [Hp0] <;> iassumption
  imod (open_own m K (recv_mem c 1)) $$ [Hp1 Hq1] with ⟨Hb1, Hu1⟩
  · isplitr; · iexact HR
    isplitl [Hp1] <;> iassumption
  imod (open_own m K (recv_mem c 2)) $$ [Hp2 Hq2] with ⟨Hb2, Hu2⟩
  · isplitr; · iexact HR
    isplitl [Hp2] <;> iassumption
  imodintro
  isplitr [Hl]
  · iexists K
    isplitr; · iexact HR
    isplitl [HaB Ha0 Ha1 Ha2 Hb0 Hb1 Hb2 Hr0 Hr1 Hr2 HtS HtR HcB HcR]
    · isplitl [HaB]; · iexact HaB
      isplitl [Ha0 Ha1 Ha2]
      · isplitl [Ha0]; · iexact Ha0
        isplitl [Ha1] <;> iassumption
      isplitl [Hb0 Hb1 Hb2]
      · isplitl [Hb0]; · iexact Hb0
        isplitl [Hb1] <;> iassumption
      isplitl [Hr0 Hr1 Hr2]
      · isplitl [Hr0]; · iexact Hr0
        isplitl [Hr1] <;> iassumption
      isplitl [HtS]; · iexact HtS
      isplitl [HtR]; · iexact HtR
      isplitl [HcB]; · iexact HcB
      iexact HcR
    isplitl [Hu0 Hu1 Hu2]
    · isplitl [Hu0]; · iexact Hu0
      isplitl [Hu1] <;> iassumption
    iexact HtB
  iexact Hl

/-! ## The region -/

/-- A device's state before the call and after it. -/
def before (c : Dev nD) : sProp 𝕄 :=
  iprop(StableHlo.held (c : Thread nD τ) (Pipeline.ucRefs τ sig) (V1 m c) ∗ carried m c ∗ ∃ W, owes (c : Thread nD τ) (O₀ c) W)
def after (c : Dev nD) : sProp 𝕄 :=
  iprop((StableHlo.held (c : Thread nD τ) (Pipeline.ucRefs τ sig) (Vend m c) ∗ semVal (barCell c) 0) ∗ ∃ W, owes (c : Thread nD τ) 0 W)

theorem enter (c : Dev nD) :
    iprop(before m c ∗ Pipeline.ownSems0 osem c ∗ levAts L lv)
      ⊢ (|={Set.univ}=> iprop((dat m c).arrays ((dat m c).arrAt · 0) ∗ tblHeld c ∗ (dat m c).owesAt () 0 ∗ opened m c
          ∗ StableHlo.held (c : Thread nD τ) others (V1 m c)) : sProp 𝕄) := by
  rw [arrays_held m c (V1 m c) ((dat m c).arrAt · 0) (fun _ => rfl), tbl_held c (V1 m c) (tbl_eq m c)]
  unfold before
  rw [held_parts]
  iintro ⟨⟨⟨Ha, Ht, Ho⟩, Hc, ⟨%W, HO⟩⟩, Hz, Hl⟩
  imod (open_all m c) $$ [Hc Hz Hl] with Hop
  · isplitl [Hc]; · iexact Hc
    isplitl [Hz] <;> iassumption
  imodintro
  isplitl [Ha]; · iexact Ha
  isplitl [Ht]; · iexact Ht
  isplitl [HO]; · iapply (owesAt_intro m c 0 (O₀ c) rfl W) $$ HO
  isplitl [Hop] <;> iassumption

theorem start (c : Dev nD) : iprop(opened m c ∗ tblHeld c ∗ Pipeline.scopedRest spec0 c) ⊢ (inv m c 0 : sProp 𝕄) := by
  rw [scopedRest0_eq]
  show _ ⊢ iprop(tblHeld c ∗ opened m c ∗ (∃ f, accPts fullShare c f) ∗ (∃ g, B3 fun j => slotPts j c g))
  iintro ⟨Ho, Ht, ⟨%f, Hf⟩, ⟨%g, Hg⟩⟩
  isplitl [Ht]; · iexact Ht
  isplitl [Ho]; · iexact Ho
  isplitl [Hf]
  · iexists f
    rw [accPts_eq]; iexact Hf
  iexists g
  rw [← com_split]; iexact Hg

theorem finish (c : Dev nD) :
    inv m c 4 ⊢ (iprop((tblHeld c ∗ semVal (barCell c) 0) ∗ Pipeline.ownSems0 osem c ∗ Pipeline.scopedRest spec0 c) : sProp 𝕄) := by
  rw [scopedRest0_eq]
  refine (inv_4 m c rfl).2.trans ?_
  rw [accPts_eq, ← com_split]
  iintro ⟨Ht, Hf, Hg, Hb, Hz⟩
  isplitl [Ht Hb]
  · isplitl [Ht] <;> iassumption
  isplitl [Hz]; · iapply (own_zeros c).2 $$ Hz
  isplitl [Hf]
  · iexists _; iexact Hf
  iexists _; iexact Hg

theorem leave (c : Dev nD) :
    iprop((dat m c).arrays ((dat m c).arrAt · (cfgOf (F := F) c).N) ∗ (dat m c).owesAt () (Fin.last (cfgOf (F := F) c).N)
        ∗ (tblHeld c ∗ semVal (barCell c) 0) ∗ StableHlo.held (c : Thread nD τ) others (V1 m c))
      ⊢ (|={Set.univ}=> after m c : sProp 𝕄) := by
  rw [arrays_held m c (Vend m c) ((dat m c).arrAt · (cfgOf (F := F) c).N) (arrAt_end m c),
    tbl_held c (Vend m c) ((Vend_of m c main_v5 (by decide)).trans (tbl_eq m c)),
    StableHlo.held_congr (c : Thread nD τ) (S := others) (V := V1 m c) (V' := Vend m c) (fun b hb => (Function.update_of_ne (fun h => by
      subst h; revert hb; decide) _ _).symm)]
  unfold after
  rw [held_parts]
  iintro ⟨Ha, HO, ⟨Ht, Hb⟩, Ho⟩
  ihave HO := (owesAt_elim m c _) $$ HO
  imodintro
  isplitr [HO]
  · isplitr [Hb]
    · isplitl [Ha]; · iexact Ha
      isplitl [Ht] <;> iassumption
    iexact Hb
  iexact HO

theorem stage_sem : ∀ (w : Fin 3) (s : Fin (spec0 w).nbuf), ¬ IsRecv (.dma ((spec0 w).sem s) : SemLoc sig) := by decide
theorem owing_cases (c : Dev nD) : ∀ n, owing c n = O₀ c ∨ owing c n = Ocopy c ∨ owing c n = 0
  | 0 => .inl rfl
  | 1 | 2 | 3 => .inr (.inl rfl)
  | _ + 4 => .inr (.inr rfl)

theorem stage_waits (c : Dev nD) : (levAts L lv : sProp 𝕄) ⊢ Pipeline.PerCore.cellsWaits (Pipeline.pinD (pcfgs (F := F)) adm) (pdats m) () 0 c :=
  Pipeline.PerCore.cellsWaits_intro (Pipeline.pinD (pcfgs (F := F)) adm) (pdats m) () 0 c fun w s t => by
    refine mayWait_stage c _ ?_ _ ?_
    · exact stage_sem w s
    · exact owing_cases c t.val

set_option backward.isDefEq.respectTransparency.types false in
def region : Pipeline.PerCore.RegionSeg (pcfgs (F := F)) adm (pdats m) () defs₀ 𝒱₀ L lv 0 where
  win := winFacts0.to₀
  block_pos := block_pos0
  stage_whole := stage_whole0
  K := Fin 6
  osem := osem
  ho := (by decide : Pipeline.OwnSemFacts spec0 osem)
  hbody c := (oblig m c).loose
  hwaits := stage_waits m
  pre := before m
  post := after m
  X := opened m
  Y c := iprop(tblHeld c ∗ semVal (barCell c) 0)
  Z c := StableHlo.held (c : Thread nD τ) others (V1 m c)
  hentry := enter m
  hin := start m
  hout := finish m
  hexit := leave m

end Cert.Stage
-- ==== Proof.Launch.lean ====
/-
# The launch and the whole run

At launch every semaphore of the exchange gets its schedule, the barriers with their counters and the send and receive
semaphores closed until the call. Each device is dealt the tokens of the duties it pays, which for the barrier and the
landings are duties of its peers, and the credit of what it will wait for. Then the host's operations and the call run
one after the other.
-/
module

public import Idealize.ShloMosaic.Lib.Quiescent
public import proofs.«01_k».proof.Proof.Region

@[expose] public section

noncomputable section

namespace Cert.Stage

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The tokens -/

/-- The three semaphores of a device that concern slot `j`. -/
def kindSem : Fin 3 → Fin 3 → SemLoc sig
  | 0, _ => .reg barS
  | 1, j => .dma (sS j)
  | 2, j => .dma (rS j)

theorem kindSem_inj : Function.Injective fun x : Fin 3 × Fin 3 => (kindSem x.1 x.2, x.2) := by decide

/-- Every duty of the exchange. -/
def allToks : Finset (GSem nD τ sig × ℕ × Fin 3) :=
  Finset.univ.map ⟨fun x : Dev nD × Fin 3 × Fin 3 => (((x.1 : Thread nD τ), kindSem x.2.1 x.2.2), 0, x.2.2), fun a b h => by
    have h0 := congrArg (fun t : GSem nD τ sig × ℕ × Fin 3 => t.1.1.1) h
    have h1 := congrArg (fun t : GSem nD τ sig × ℕ × Fin 3 => t.1.2) h
    have h2 := congrArg (fun t : GSem nD τ sig × ℕ × Fin 3 => t.2.2) h
    exact Prod.ext h0 (kindSem_inj (Prod.ext h1 h2))⟩

theorem disjoint_cells : Disjoint barCells ownCells := Finset.disjoint_left.mpr fun g hb ho => by
  obtain ⟨c, -, rfl⟩ := Finset.mem_map.mp hb
  obtain ⟨x, -, h⟩ := Finset.mem_map.mp ho
  exact dma_ne_bar _ (congrArg (fun g : GSem nD τ sig => g.2) h)

theorem phinj : Function.Injective (Pipeline.PerCore.cellOf (nD := nD) (τ := τ) (Pipeline.pinD (pcfgs (F := F)) adm)) :=
  Pipeline.PerCore.cellOf_injective _ (fun c p => by
    obtain rfl : p = 0 := Subsingleton.elim _ _
    exact Pipeline.specSemsDistinct_of_nodup _ (semsDistinct 0)) fun _ p p' h => absurd (Subsingleton.elim p p') h

variable (F) in
/-- The ghost state the launch starts from: the pipeline's and the exchange's. -/
def ghost₀ : UU :=
  (initOf (Pipeline.PerCore.cells (Pipeline.pinD (pcfgs (F := F)) adm) phinj)
      (Pipeline.PerCore.launchToks (Pipeline.pinD (pcfgs (F := F)) adm) phinj),
    launchOf barCells ownCells allToks)

/-- The exchange's, left with device 0 until it is dealt. -/
def parked (c : Dev nD) : sProp 𝕄 := if c = 0 then BI.own (ER (launchOf barCells ownCells allToks)) else iprop(emp)

theorem parked_all : bigSep Finset.univ (parked (F := F)) = BI.own (ER (launchOf barCells ownCells allToks)) := by
  rw [bigSep_univ_at _ (0 : Dev nD), bigSep_congr (s := Finset.univ.erase (0 : Dev nD)) (Ψ := fun _ => (BI.emp : sProp 𝕄))
    fun c hc => by unfold parked; rw [if_neg (Finset.ne_of_mem_erase hc)]; rfl, BI.bigSep_emp_const]
  unfold parked; rw [if_pos rfl]
  exact BI.equiv_iff.mp sep_emp

/-- The tokens of the duties device `c` pays. -/
def paid (c : Dev nD) : sProp 𝕄 :=
  iprop((B3 fun j => dutyTok ER (barCell (pr j c)) 0 j) ∗ (B3 fun j => dutyTok ER (sCell c j) 0 j) ∗ (B3 fun j => dutyTok ER (rCell (pr j c) j) 0 j))

theorem b3_around (Φ : Fin 3 → Dev nD → sProp 𝕄) :
    (bigSep Finset.univ fun c => B3 fun j => Φ j c) = bigSep Finset.univ fun c => B3 fun j => Φ j (pr j c) := by
  rw [bigSep_sep', bigSep_sep', bigSep_sep', bigSep_sep', bigSep_univ_equiv (swap 0) (Φ 0), bigSep_univ_equiv (swap 1) (Φ 1),
    bigSep_univ_equiv (swap 2) (Φ 2)]
  rfl

theorem three (Φ Ψ Ω : Dev nD → sProp 𝕄) : (bigSep Finset.univ fun c => iprop(Φ c ∗ Ψ c ∗ Ω c))
    = iprop(bigSep Finset.univ Φ ∗ bigSep Finset.univ Ψ ∗ bigSep Finset.univ Ω) := by rw [bigSep_sep', bigSep_sep']

theorem toks_dealt : bigSep allToks (fun x => (dutyTok ER x.1 x.2.1 x.2.2 : sProp 𝕄)) = bigSep Finset.univ paid := by
  have e : bigSep allToks (fun x => (dutyTok ER x.1 x.2.1 x.2.2 : sProp 𝕄)) = bigSep Finset.univ fun c : Dev nD =>
      iprop((B3 fun j => dutyTok ER (barCell c) 0 j) ∗ (B3 fun j => dutyTok ER (sCell c j) 0 j) ∗ (B3 fun j => dutyTok ER (rCell c j) 0 j)) := by
    unfold allToks
    rw [bigSep_map, bigSep_univ_prod]
    exact bigSep_congr fun c _ => by rw [bigSep_univ_prod, bigSep_W0, bigSep_W0, bigSep_W0, bigSep_W0]; rfl
  rw [e]
  unfold paid
  rw [three (fun c => B3 fun j => dutyTok ER (barCell c) 0 j) (fun c => B3 fun j => dutyTok ER (sCell c j) 0 j)
      (fun c => B3 fun j => dutyTok ER (rCell c j) 0 j),
    three (fun c => B3 fun j => dutyTok ER (barCell (pr j c)) 0 j) (fun c => B3 fun j => dutyTok ER (sCell c j) 0 j)
      (fun c => B3 fun j => dutyTok ER (rCell (pr j c) j) 0 j),
    b3_around fun j c => dutyTok ER (barCell c) 0 j, b3_around fun j c => dutyTok ER (rCell c j) 0 j]

/-! ## The credit -/

theorem owR_bar (d c : Dev nD) (j : Fin 3) : owR d j (barCell c) () = 0 := by
  rw [tallyAt_apply]; exact if_neg fun h => dma_ne_bar _ (congrArg (fun g : GSem nD τ sig => g.2) h.1).symm
theorem owB_recv (d c : Dev nD) (j k : Fin 3) : owB d j (rCell c k) () = 0 := by
  rw [tallyAt_apply]; exact if_neg fun h => dma_ne_bar _ (congrArg (fun g : GSem nD τ sig => g.2) h.1)
theorem owB_bar (d c : Dev nD) (j : Fin 3) : owB d j (barCell c) () = if d = pr j c then 1 else 0 := by
  rw [tallyAt_apply]
  refine if_congr ⟨fun h => ?_, fun h => ⟨by rw [h, pr_pr], rfl⟩⟩ rfl rfl
  rw [show c = pr j d from congrArg (fun g : GSem nD τ sig => g.1.1) h.1, pr_pr]
theorem owR_recv (d c : Dev nD) (j k : Fin 3) : owR d j (rCell c k) () = if j = k ∧ d = pr k c then N else 0 := by
  rw [tallyAt_apply]
  refine if_congr ⟨fun h => ?_, fun h => ⟨by rw [h.1, h.2, pr_pr], rfl⟩⟩ rfl rfl
  obtain rfl : k = j := rS_inj (congrArg (fun g : GSem nD τ sig => g.2) h.1)
  exact ⟨rfl, by rw [show c = pr k d from congrArg (fun g : GSem nD τ sig => g.1.1) h.1, pr_pr]⟩

theorem O₀_apply (d : Dev nD) (g : GSem nD τ sig) :
    O₀ d g () = (0 + owR d 2 g () + owR d 1 g () + owR d 0 g ()) + owB d 2 g () + owB d 1 g () + owB d 0 g () := rfl

theorem credit_bar (c : Dev nD) :
    tallyOn (barCell c) (launchCredit (Pipeline.owing O₀) 0 (barCell c)) = (tallyAt (barCell c) () 3 : CellTallies nD τ sig Unit) := by
  unfold tallyAt
  refine congrArg _ (Finsupp.ext fun u => ?_)
  cases u
  rw [Pipeline.launchCredit_owing, Finsupp.single_eq_same]
  rw [Finset.sum_congr rfl fun d _ => show O₀ d (barCell c) () = (0 + 0 + 0 + 0) + (if d = pr 2 c then 1 else 0) + (if d = pr 1 c then 1 else 0)
      + (if d = pr 0 c then 1 else 0) from by rw [O₀_apply, owR_bar, owR_bar, owR_bar, owB_bar, owB_bar, owB_bar]]
  simp only [Finset.sum_add_distrib, Finset.sum_ite_eq', Finset.mem_univ, if_true, Finset.sum_const_zero]
  rfl

theorem credit_recv (c : Dev nD) (k : Fin 3) :
    tallyOn (rCell c k) (launchCredit (Pipeline.owing O₀) 0 (rCell c k)) = (tallyAt (rCell c k) () N : CellTallies nD τ sig Unit) := by
  unfold tallyAt
  refine congrArg _ (Finsupp.ext fun u => ?_)
  cases u
  rw [Pipeline.launchCredit_owing, Finsupp.single_eq_same,
    Finset.sum_congr rfl fun d _ => show O₀ d (rCell c k) () = if d = pr k c then N else 0 from by
      rw [O₀_apply, owR_recv, owR_recv, owR_recv, owB_recv, owB_recv, owB_recv]
      by_cases h : d = pr k c
      · rw [if_pos h]; simp only [h, and_true]; generalize N = n; revert k; intro k _; fin_cases k <;> simp
      · rw [if_neg h]; simp only [h, and_false, if_false],
    Finset.sum_ite_eq' Finset.univ (pr k c) fun _ => N, if_pos (Finset.mem_univ _)]

theorem credits (c : Dev nD) :
    (Pipeline.launchCred O₀ c : sProp 𝕄) ⊢ iprop(cred (tallyAt (barCell c) () 3) ∗ B3 fun j => cred (tallyAt (rCell c j) () N)) := by
  unfold Pipeline.launchCred
  rw [bigSep_sdiff_split (Finset.subset_univ ({.reg barS, .dma (rS 0), .dma (rS 1), .dma (rS 2)} : Finset (SemLoc sig))),
    bigSep_insert (by decide), bigSep_insert (by decide), bigSep_insert (by decide), bigSep_singleton]
  rw [show tallyOn ((c.tc : Thread nD τ), SemLoc.reg barS) _ = _ from credit_bar c, show tallyOn ((c.tc : Thread nD τ), SemLoc.dma (rS 0)) _ = _ from credit_recv c 0,
    show tallyOn ((c.tc : Thread nD τ), SemLoc.dma (rS 1)) _ = _ from credit_recv c 1, show tallyOn ((c.tc : Thread nD τ), SemLoc.dma (rS 2)) _ = _ from credit_recv c 2]
  show iprop((cred (tallyAt (barCell c) () 3) ∗ B3 fun j => cred (tallyAt (rCell c j) () N)) ∗ _) ⊢ _
  iintro ⟨H, -⟩
  iexact H

/-! ## The deal -/

/-- What a device holds when its program starts. -/
def held₀ (c : Dev nD) : sProp 𝕄 :=
  iprop(StableHlo.held (c : Thread nD τ) (Pipeline.ucRefs τ sig) (V0 m c) ∗ carried m c ∗ ∃ W, owes (c : Thread nD τ) (O₀ c) W)

/-- The part of it dealt with the counters' schedules, -/
def dealt (c : Dev nD) : sProp 𝕄 :=
  iprop(atPos ER (barCell c) 0 ∅ 0 ∗ ((B3 fun j => openTok ER (sCell c j)) ∗ (B3 fun j => openTok ER (rCell c j))) ∗ paid c)
/-- and the part each device has anyway. -/
def own₀ (c : Dev nD) : sProp 𝕄 :=
  iprop(StableHlo.held (c : Thread nD τ) (Pipeline.ucRefs τ sig) (V0 m c) ∗ owes (c : Thread nD τ) (O₀ c) ∅
    ∗ cred (tallyAt (barCell c) () 3) ∗ B3 fun j => cred (tallyAt (rCell c j) () N))

theorem own₀_intro (ρ : Dev nD → PrngReg) (c : Dev nD) :
    iprop(unscopedBufs c (fun b => m ((c.tc : Thread nD τ).loc b)) ∗ unscopedSems0 c ∗ owes (c : Thread nD τ) (O₀ c) ∅
        ∗ Pipeline.launchCred O₀ c ∗ prngReg c (ρ c) ∗ parked c)
      ⊢ (iprop(own₀ m c ∗ semVal (barCell c) 0 ∗ parked c) : sProp 𝕄) := by
  rw [show (unscopedSems0 c : sProp 𝕄) = semVal (barCell c) 0 from by
      unfold unscopedSems0
      rw [show (Finset.univ.filter fun sm : SemLoc sig => ¬ sm.isScoped .tc) = {SemLoc.reg barS} from by decide, BI.bigSep_singleton],
    show (unscopedBufs c (fun b => m ((c.tc : Thread nD τ).loc b)) : sProp 𝕄) = StableHlo.held (c : Thread nD τ) (Pipeline.ucRefs τ sig) (V0 m c) from
      Pipeline.unscopedBufs_held (Ix := Unit) (Name := ℕ) (U := UU) (Lvl := ℕ) c (V0 m c)]
  unfold own₀
  iintro ⟨Hh, Hb, HO, Hc, -, HG⟩
  ihave Hc := (credits c) $$ Hc
  isplitl [Hh HO Hc]
  · isplitl [Hh]; · iexact Hh
    isplitl [HO] <;> iassumption
  isplitl [Hb] <;> iassumption

theorem held₀_intro (K : GSem nD τ sig → ℕ) (c : Dev nD) : iprop(recs (total m) K ∗ (dealt c ∗ own₀ m c)) ⊢ held₀ m c := by
  unfold dealt own₀ held₀ carried paid
  iintro ⟨#HR, ⟨HaB, ⟨HoS, HoR⟩, HtB, HtS, HtR⟩, Hh, HO, HcB, HcR⟩
  isplitl [Hh]; · iexact Hh
  isplitr [HO]
  · isplitr
    · iexists K; iexact HR
    isplitl [HaB]; · iexact HaB
    isplitl [HoS]; · iexact HoS
    isplitl [HoR]; · iexact HoR
    isplitl [HtB]; · iexact HtB
    isplitl [HtS]; · iexact HtS
    isplitl [HtR]; · iexact HtR
    isplitl [HcB] <;> iassumption
  iexists ∅; iexact HO

theorem deal (ρ : Dev nD → PrngReg) :
    iprop((bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (held₀ m) : sProp 𝕄) := by
  have h0 : (bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ parked c))
      ⊢ (bigSep Finset.univ fun c : Dev nD => iprop(own₀ m c ∗ semVal (barCell c) 0 ∗ parked c) : sProp 𝕄) :=
    bigSep_mono fun c _ => own₀_intro m ρ c
  rw [three (own₀ m) (fun c => semVal (barCell c) 0) parked, parked_all] at h0
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have ha : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have ho : bigSep ownCells (fun g => (openTok ER g : sProp 𝕄))
      ⊢ bigSep Finset.univ (fun c : Dev nD => iprop((B3 fun j => openTok ER (sCell c j)) ∗ (B3 fun j => openTok ER (rCell c j)))) := by
    unfold ownCells
    rw [bigSep_map, bigSep_univ_prod]
    exact bigSep_mono fun c _ => (six _).1
  have ht : bigSep allToks (fun x => (dutyTok ER x.1 x.2.1 x.2.2 : sProp 𝕄)) ⊢ bigSep Finset.univ paid := Entails.of_eq toks_dealt
  iintro ⟨H, -⟩
  ihave H := h0 $$ H
  icases H with ⟨HB, Hv, Hu⟩
  ihave Hv := hv $$ Hv
  imod (Rounds.fund_launch ER (talk (total m)) disjoint_cells (fun g _ h => h) allToks) $$ [Hv Hu] with ⟨%K, -, #HI, #HR, Ha, Ho, Ht⟩
  · isplitl [Hv] <;> iassumption
  imodintro
  iapply (bigSep_with_persistent (R := recs (total m) K) (Φ := fun c => iprop(dealt c ∗ own₀ m c)) fun c _ => held₀_intro m K c)
  isplitr
  · unfold recs
    isplitr; · iexact HI
    iexact HR
  rw [bigSep_sep']
  isplitr [HB]
  · unfold dealt
    rw [three (fun c => atPos ER (barCell c) 0 ∅ 0) (fun c => iprop((B3 fun j => openTok ER (sCell c j)) ∗ (B3 fun j => openTok ER (rCell c j)))) paid]
    isplitl [Ha]; · iapply ha $$ Ha
    isplitl [Ho]; · iapply ho $$ Ho
    iapply ht $$ Ht
  iexact HB

/-! ## The run -/

/-- What rides along the host's operations. -/
def riding (_ : Fin 2) (c : Dev nD) : sProp 𝕄 := iprop(carried m c ∗ ∃ W, owes (c : Thread nD τ) (O₀ c) W)

def parts (c : Dev nD) : List (Pipeline.PerCore.Seg (pcfgs (F := F)) adm (pdats m) () defs₀ 𝒱₀ L lv) :=
  [.host (seg0 m 𝒱₀ L lv (riding m) c), .region (region m)]

theorem bar_only : ∀ sm : SemLoc sig, sm.isScoped .tc = false → sm = .reg barS := by decide

/-- A whole buffer no operation writes is what it was. -/
theorem Vend_arg (c : Dev nD) (r : Ref sig .tc) (h1 : r ≠ main_v6) (h0 : r ∉ hostOps0_W) :
    Vend m c (Proc.devRef .tc r) = m ((c.tc : Thread nD τ).loc r) := (Vend_of m c r h1).trans (V1_of m c r h0)

set_option backward.isDefEq.respectTransparency.types false in
/-- Every execution ends, with the arguments unchanged, the same result on every device and every counter at zero. -/
theorem run_main (ρ : Dev nD → PrngReg) : θ_run defs (onTc (τ := τ) (main (F := F))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v6) = outOf (total m) c) ∧ r.2.sem = fun _ => 0) :=
  Pipeline.PerCore.θ_run_regions_kit_sems (pcfgs (F := F)) adm (pdats m) () phinj EP defs₀ 𝒱₀ L lv m ρ main (parts m)
    (fun c Q => by
      rewrite [main_chain c, Pipeline.PerCore.Seg.run_eq_chain,
        show (parts m c).map Pipeline.PerCore.Seg.prog = [StableHlo.seq (hostOps0 c), Prog.lift (.customCall (Pipeline.entry 0) ())] from rfl]
      dsimp (config := { failIfUnchanged := false }) only
      exact .rfl)
    (fun c => by simp only [parts, Pipeline.PerCore.Seg.pipes_host, Pipeline.PerCore.Seg.pipes_region, Pipeline.PerCore.Seg.pipes_nil]; decide)
    (O₀ := O₀) (hL := L_of_ne) (G := parked) (u₀ := ghost₀ F)
    (hu₀ := by
      unfold ghost₀
      rw [parked_all]
      iintro Hu
      ihave H := (ownU_pair _ _) $$ Hu
      icases H with ⟨HP, HX⟩
      imodintro
      isplitl [HP] <;> iassumption)
    (T₀ := held₀ m)
    (Tₙ := fun c => iprop(StableHlo.held (c : Thread nD τ) (Pipeline.ucRefs τ sig) (Vend m c) ∗ semVal (barCell c) 0))
    (hch := fun c => ⟨.rfl, .rfl, .rfl⟩)
    (hinit := deal m ρ)
    (QY := fun c s => (∀ r, ¬ (Proc.devRef (τ := τ) .tc r).isScoped → s.mem ((c.tc : Thread nD τ).loc r) = Vend m c (Proc.devRef .tc r)) ∧ s.sem (barCell c) = 0)
    (hfin := fun c s' => by
      unfold StableHlo.held
      iintro ⟨⟨Hh, Hb⟩, HSI⟩
      icombine HSI Hb gives %hb
      ihave Hr := (pointsTo_read_all (Pipeline.ucRefs τ sig) (fun b => ((c : Thread nD τ).1, b)) (Vend m c) s') $$ [Hh HSI]
      · isplitl [Hh] <;> iassumption
      icases Hr with ⟨%h, HSI⟩
      imodintro
      isplitr
      · ipureintro
        exact ⟨fun r hr => h (Proc.devRef .tc r) (Finset.mem_filter.mpr ⟨StableHlo.devRef_mem_tcRefs r, hr⟩), by simpa using hb⟩
      iexact HSI)
    (hQ := fun s h hs => ⟨fun c => ⟨⟨((h c).1 main_arg0 (by decide)).trans (Vend_arg m c main_arg0 (by decide) (by decide)),
        ((h c).1 main_arg1 (by decide)).trans (Vend_arg m c main_arg1 (by decide) (by decide)),
        ((h c).1 main_arg2 (by decide)).trans (Vend_arg m c main_arg2 (by decide) (by decide))⟩,
        ((h c).1 main_v6 (by decide)).trans (Vend_result m c)⟩,
      sem_eq_zero hs fun c sm hsm => by rw [bar_only sm hsm]; exact (h c).2⟩)

end Cert.Stage
-- ==== Proof.Block.lean ====
/-
# One block's computation

What the body adds to the running sum at one grid point, at exact arithmetic, entry by entry: a sum over the block's
rows of a term that depends on one row of each of the two inputs.
-/
module

public import Idealize.ShloMosaic.Lib.Pointwise
public import proofs.«01_k».proof.Proof.Body

@[expose] public section

noncomputable section

namespace Cert.Stage

open Cert.KernelIdeal Cert.KernelIdeal.Gen
open Idealize.ShloMosaic

/-- The number of columns, as the programs write it. -/
abbrev cols : EReal := Ideal.ofBits .f32 0x45000000#32
/-- The small constant under the root. -/
abbrev eps : EReal := Ideal.ofBits .bf16 0x3728#16

/-- A row's mean, its variance and one over its deviation. -/
def mean (x : Fin 2048 → EReal) : EReal := Ideal.div (∑ k, x k) cols
def var (x : Fin 2048 → EReal) : EReal := Ideal.div (∑ k, (x k - mean x) * (x k - mean x)) cols
def scale (x : Fin 2048 → EReal) : EReal := Ideal.rsqrt (var x + eps)

/-- What one row adds to entry `l` of result row `i`. -/
def term (i : Fin 2) (x y : Fin 2048 → EReal) (l : Fin 2048) : EReal := if i.val < 1 then y l * ((x l - mean x) * scale x) else y l

/-- Row `r` of an array. -/
def row {n : ℕ} (x : (⟨2, ![n, 2048]⟩ : Shape).Idx → EReal) (r : Fin n) : Fin 2048 → EReal := fun k => x (ix2 r k)

set_option maxRecDepth 16384 in
theorem accNext_apply (x y : FVec Ideal S512x2048 .bf16) (f : FVec Ideal S2x2048 .f32) (i : Fin 2) (l : Fin 2048) :
    accNext x y f (ix2 i l) = f (ix2 i l) + ∑ r : Fin 512, term i (row x r) (row y r) l := by
  unfold accNext
  pointwise [k0_pay1, k0_pay5, k0_pay6, k0_pay7, k0_pay8, k0_pay9]
  refine congrArg (f (ix2 i l) + ·) ?_
  by_cases h : i.val < 1
  · rw [dif_pos h]
    exact Finset.sum_congr rfl fun r _ => (if_pos h).symm
  · rw [dif_neg h]
    exact Finset.sum_congr rfl fun r _ => (if_neg h).symm

theorem zero_apply (i : Fin 2) (l : Fin 2048) : (k0_pay4 (F := Ideal)) (ix2 i l) = 0 := by
  pointwise [k0_pay4]

/-- What the slot holds that device `pr j c` wrote. -/
theorem slot_apply (tot : Dev nD → FVec Ideal S2x2048 .f32) (c : Dev nD) (j : Fin 3) (i : Fin 2) (l : Fin 2048) :
    slotVec (F := Ideal) (gath tot c) j (ix3 (0 : Fin 1) i l) = tot (pr j c) (ix2 i l) :=
  congrArg (tot (pr j c)) (funext fun a => by match a with | ⟨0, _⟩ => rfl | ⟨1, _⟩ => rfl)

theorem outOf_apply (tot : Dev nD → FVec Ideal S2x2048 .f32) (c : Dev nD) (i : Fin 2) (l : Fin 2048) :
    outOf tot c (ix2 i l) = tot c (ix2 i l) + tot (pr 0 c) (ix2 i l) + tot (pr 1 c) (ix2 i l) + tot (pr 2 c) (ix2 i l) := by
  unfold outOf
  pointwise [k0_pay2, k0_pay3]
  rw [slot_apply, slot_apply, slot_apply]

end Cert.Stage
-- ==== Proof.Contents.lean ====
/-
# What the blocks hold

The pipeline's block at a point, entry by entry: rows of the device's arrays, which are rows of the whole arrays. Device
`c` at point `t` reads rows `2048·c + 512·t` and on, 512 of them.
-/
module

public import Idealize.ShloMosaic.Lib.Pointwise
public import Idealize.ShloMosaic.Lib.Layout
public import Idealize.ShloMosaic.Lib.Pipeline.ValueKit
public import proofs.«01_k».proof.Proof.Block
public import proofs.«01_k».proof.Proof.Data

@[expose] public section

noncomputable section

namespace Cert.Stage

open Cert.KernelIdeal Cert.KernelIdeal.Gen

open Idealize.ShloMosaic
open Idealize.ShloMosaic.TcCoe

variable (m : (ℓ : Loc nD τ sig) → Buf (Elt Ideal) ℓ)

/-- The row of its device's array that row `r` of the block at point `t` is. -/
theorem row_lt (c : Dev nD) (t : Fin 4) (r : Fin 512) : 512 * (4 * (c.val % 2) + t.val) + r.val < 4096 := by omega

theorem xAt_apply (c : Dev nD) (t : Fin grid0.N) (r : Fin 512) (k : Fin 2048) :
    xAt m c t (ix2 r k) = m ((c.tc : Thread nD τ).loc main_arg0)
      (ix2 ⟨512 * (4 * (c.val % 2) + (grid0.coords t 0).val) + r.val, row_lt c (grid0.coords t 0) r⟩ k) := by
  unfold xAt
  rw [V1_of m c _ (by decide)]
  have e : ((cfgOf (F := Ideal) c).win 0).index t = ![4 * (c.val % 2) + (grid0.coords t 0).val, 0] := tbl_index0 c _
  blk_ext [e, V0]

theorem yAt_apply (c : Dev nD) (t : Fin grid0.N) (r : Fin 512) (k : Fin 2048) :
    yAt m c t (ix2 r k) = m ((c.tc : Thread nD τ).loc main_arg1)
      (ix2 ⟨512 * (4 * (c.val % 2) + (grid0.coords t 0).val) + r.val, row_lt c (grid0.coords t 0) r⟩ k) := by
  unfold yAt
  rw [V1_of m c _ (by decide)]
  have e : ((cfgOf (F := Ideal) c).win 1).index t = ![4 * (c.val % 2) + (grid0.coords t 0).val, 0] := tbl_index1 c _
  blk_ext [e, V0]

/-- A device's part of a whole array, at a row and a column. -/
theorem part_apply (X : (⟨2, ![8192, 2048]⟩ : Shape).Idx → EReal) (c : Dev nD) (r : Fin 4096) (k : Fin 2048) :
    Layout.blockN ⟨2, ![4096, 2048]⟩ ⟨2, ![8192, 2048]⟩ (Layout.meshBlock [2, 2] ![[0], []] c) X (by decide) (ix2 r k)
      = X (ix2 ⟨4096 * (c.val / 2) + r.val, by have := c.isLt; have : c.val < 4 := c.isLt; omega⟩ k) := by
  refine congrArg X (funext fun a => Fin.ext ?_)
  fin_cases a
  · have : c.val < 4 := c.isLt
    show (c.val / 2 % 2 * 1 + 0) * 4096 + r.val = 4096 * (c.val / 2) + r.val
    omega
  · show 0 * 2048 + k.val = k.val
    omega

end Cert.Stage
-- ==== Proof.Reference.lean ====
/-
# The reference's result

The reference's term, entry by entry at exact arithmetic: a sum over all rows of the same term as the kernel's blocks.
The reference divides one by a root where the kernel takes the reciprocal root. The two agree because what is under the
root is positive: a variance is a sum of squares over a positive number, and the small constant is positive.
-/
module

public import Idealize.ShloMosaic.Lib.Pointwise
public import proofs.«01_k».proof.Proof.Block
public import proofs.«01_k».proof.Proof.Gen.ReferenceIdeal.Run

@[expose] public section

noncomputable section

namespace Cert.Stage

open Idealize.ShloMosaic

/-! ## The constants -/

theorem cols_eq : cols = ((2048 : ℝ) : EReal) := by
  simp [cols, Ideal.ofBits, Ideal.ieee, -EReal.coe_mul]; norm_num
theorem cols_pos : 0 < cols := by
  rw [cols_eq]; exact EReal.coe_pos.mpr (by norm_num)
theorem eps_pos : 0 < eps := by
  simp [eps, Ideal.ofBits, Ideal.ieee, -EReal.coe_mul]

/-! ## The root -/

theorem sq_nonneg' (a : EReal) : 0 ≤ a * a := by
  induction a with
  | bot => simp
  | top => simp
  | coe r => rw [← EReal.coe_mul]; exact EReal.coe_nonneg.mpr (mul_self_nonneg r)

theorem var_nonneg (x : Fin 2048 → EReal) : 0 ≤ var x := by
  unfold var
  rw [cols_eq, Ideal.div_coe (by norm_num : (2048 : ℝ) ≠ 0)]
  exact EReal.mul_nonneg (Finset.sum_nonneg fun k _ => sq_nonneg' _) (EReal.coe_nonneg.mpr (by norm_num))

theorem one_div_root {a : EReal} (h : 0 < a) : Ideal.div 1 (Ideal.sqrt a) = Ideal.rsqrt a := by
  induction a with
  | bot => exact absurd h (by simp)
  | top => simp [Ideal.div]
  | coe r =>
    have hr : 0 < r := EReal.coe_pos.mp h
    rw [Ideal.sqrt_coe, Ideal.rsqrt_coe, if_neg hr.not_gt, if_neg hr.not_gt, if_neg hr.ne', Ideal.div_coe (Real.sqrt_pos.mpr hr).ne', one_div, one_mul]

theorem scale_eq (x : Fin 2048 → EReal) : Ideal.div 1 (Ideal.sqrt (var x + eps)) = scale x :=
  one_div_root (lt_of_lt_of_le eps_pos (le_add_of_nonneg_left (var_nonneg x)))

end Cert.Stage

namespace Cert.ReferenceIdeal.Value

open Cert.ReferenceIdeal Cert.ReferenceIdeal.Gen Idealize.ShloMosaic

/-- A single number down a column. -/
abbrev col {e : FTy} (a : FVec Ideal S_ e) : FVec Ideal S8192x1 e := broadcastInDim S8192x1 ![] bcast_S_S8192x1 a

/-- A column along the rows. -/
abbrev wide {e : FTy} (a : FVec Ideal S8192x1 e) : FVec Ideal S8192x2048 e :=
  broadcastInDim S8192x2048 ![0, 1] bcast_S8192x1_S8192x2048_0_1 a

/-- The sums of the rows, as a column. -/
def rowSums (a : FVec Ideal S8192x2048 .f32) : FVec Ideal S8192x1 .f32 :=
  broadcastInDim S8192x1 ![0] bcast_S8192_S8192x1_0
    (Host.reduceAdd a (constant S_ .f32 0x00000000#32) reducesTo_S8192x2048_S8192_d1 h_S_)

/-- The sums of the columns, as a row. -/
def colSums (a : FVec Ideal S8192x2048 .f32) : FVec Ideal S1x2048 .bf16 :=
  broadcastInDim S1x2048 ![1] bcast_S2048_S1x2048_1
    (truncf .bf16 (Host.reduceAdd a (constant S_ .f32 0x00000000#32) reducesTo_S8192x2048_S2048_d0 h_S_) bitsLt_bf16_f32)

/-- The means of the rows. -/
def means (x : FVec Ideal S8192x2048 .bf16) : FVec Ideal S8192x1 .f32 :=
  Host.divf (rowSums (extf .f32 x bitsLt_bf16_f32)) (col (constant S_ .f32 0x45000000#32))

/-- The rows with their means taken off. -/
def centred (x : FVec Ideal S8192x2048 .bf16) : FVec Ideal S8192x2048 .f32 :=
  subf (extf .f32 x bitsLt_bf16_f32) (wide (means x))

/-- The number of columns, less a correction of zero. -/
def count : FVec Ideal S_ .f32 := subf (constant S_ .f32 0x45000000#32) (sitofp .f32 (constantI S_ 32 0#32))

/-- The variances of the rows, where the count is positive. -/
def variances (x : FVec Ideal S8192x2048 .bf16) : FVec Ideal S8192x1 .bf16 :=
  select (broadcastInDim S8192x1 ![] bcast_S_S8192x1 (cmpf .ogt count (constant S_ .f32 0x00000000#32)))
    (truncf .bf16 (Host.divf (rowSums (mulf (centred x) (centred x))) (col count)) bitsLt_bf16_f32)
    (col (truncf .bf16 (constant S_ .f32 0x7FC00000#32) bitsLt_bf16_f32))

/-- One over the root of variance and small constant. -/
def scales (x : FVec Ideal S8192x2048 .bf16) : FVec Ideal S8192x1 .bf16 :=
  Host.divf (col (constant S_ .bf16 0x3F80#16)) (Host.sqrt (addf (variances x) (col (constant S_ .bf16 0x3728#16))))

/-- The reference's result as a term in its first two arguments. -/
def result (x y : FVec Ideal S8192x2048 .bf16) : FVec Ideal S2x2048 .f32 :=
  extf .f32 (concatenate S2x2048 0
    [⟨S1x2048, colSums (extf .f32 (mulf y (mulf (subf x (wide (truncf .bf16 (means x) bitsLt_bf16_f32))) (wide (scales x)))) bitsLt_bf16_f32)⟩,
     ⟨S1x2048, colSums (extf .f32 y bitsLt_bf16_f32)⟩] concatenates_S1x2048_S1x2048_S2x2048_d0) bitsLt_bf16_f32

set_option maxRecDepth 16384 in
/-- The reference's run leaves this term, its arguments as they were, and no semaphore raised, as it has none. -/
theorem run_result (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_v26)
          = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨h, sem_eq_zero_of_no_sems (by rfl) r.2⟩) (run m ρ)

theorem rowSums_apply (a : FVec Ideal S8192x2048 .f32) (r : Fin 8192) :
    rowSums a (ix2 r 0) = ∑ k : Fin 2048, a (ix2 r k) := by
  unfold rowSums
  pointwise []

theorem colSums_apply (a : FVec Ideal S8192x2048 .f32) (l : Fin 2048) :
    colSums a (ix2 0 l) = ∑ r : Fin 8192, a (ix2 r l) := by
  unfold colSums
  pointwise []

theorem means_apply (x : FVec Ideal S8192x2048 .bf16) (r : Fin 8192) :
    means x (ix2 r 0) = Stage.mean (Stage.row x r) := by
  unfold means
  pointwise [rowSums_apply]
  rfl

theorem centred_apply (x : FVec Ideal S8192x2048 .bf16) (r : Fin 8192) (k : Fin 2048) :
    centred x (ix2 r k) = x (ix2 r k) - Stage.mean (Stage.row x r) := by
  unfold centred
  pointwise [means_apply]

theorem count_apply (j : S_.Idx) : count j = Stage.cols := by
  unfold count
  pointwise []
  have h : FloatOps.sitofp (F := Ideal) FTy.f32 (0#32) = (0 : EReal) := by
    show (((0#32 : BitVec 32).toInt : ℝ) : EReal) = 0
    simp
  rw [h, sub_zero]

theorem variances_apply (x : FVec Ideal S8192x2048 .bf16) (r : Fin 8192) :
    variances x (ix2 r 0) = Stage.var (Stage.row x r) := by
  unfold variances
  pointwise [rowSums_apply, centred_apply, count_apply]
  exact if_pos Stage.cols_pos

theorem scales_apply (x : FVec Ideal S8192x2048 .bf16) (r : Fin 8192) :
    scales x (ix2 r 0) = Stage.scale (Stage.row x r) := by
  unfold scales
  pointwise [variances_apply]
  exact Stage.scale_eq _

set_option maxRecDepth 16384 in
theorem result_apply (x y : FVec Ideal S8192x2048 .bf16) (i : Fin 2) (l : Fin 2048) :
    result x y (ix2 i l) = ∑ r : Fin 8192, Stage.term i (Stage.row x r) (Stage.row y r) l := by
  unfold result
  pointwise []
  by_cases h : i.val < 1
  · rw [dif_pos h]
    have e : (⟨i.val, h⟩ : Fin 1) = 0 := Subsingleton.elim _ _
    refine ((congrArg (fun j => colSums _ (ix2 j l)) e).trans (colSums_apply _ l)).trans
      (Finset.sum_congr rfl fun r _ => ?_)
    pointwise [means_apply, scales_apply]
    exact (if_pos h).symm
  · rw [dif_neg h]
    refine ((congrArg (fun j => colSums _ (ix2 j l)) (Subsingleton.elim _ (0 : Fin 1))).trans (colSums_apply _ l)).trans
      (Finset.sum_congr rfl fun r _ => (if_neg h).symm)

end Cert.ReferenceIdeal.Value
-- ==== Proof.Equation.lean ====
/-
# The equation

What a device ends with is what the reference computes. Give row `n` of the whole arrays its term `g n`. A device's total
is the sum of `g` over 2048 rows from `2048·c` on, the reference's result the sum over all 8192 rows; a device adds its own
total and those of its three peers, which are all four.
-/
module

public import proofs.«01_k».proof.Proof.Contents
public import proofs.«01_k».proof.Proof.Reference

@[expose] public section

noncomputable section

namespace Cert.Stage

open Cert.KernelIdeal Cert.KernelIdeal.Gen

open Idealize.ShloMosaic
open Idealize.ShloMosaic.TcCoe

/-- A sum over four stretches of the same length. -/
theorem sum_four (g : ℕ → EReal) (k : ℕ) : ∑ n ∈ Finset.range (k + k + k + k), g n
    = ∑ n ∈ Finset.range k, g n + ∑ n ∈ Finset.range k, g (k + n) + ∑ n ∈ Finset.range k, g (k + k + n)
      + ∑ n ∈ Finset.range k, g (k + k + k + n) := by
  rw [Finset.sum_range_add, Finset.sum_range_add, Finset.sum_range_add]

/-- What row `n` of the whole arrays adds to an entry of the result. -/
def rowTerm (X Y : (⟨2, ![8192, 2048]⟩ : Shape).Idx → EReal) (i : Fin 2) (l : Fin 2048) (n : ℕ) : EReal :=
  if h : n < 8192 then term i (row X ⟨n, h⟩) (row Y ⟨n, h⟩) l else 0

theorem rowTerm_of {X Y : (⟨2, ![8192, 2048]⟩ : Shape).Idx → EReal} {i : Fin 2} {l : Fin 2048} {n : ℕ} (h : n < 8192) :
    term i (row X ⟨n, h⟩) (row Y ⟨n, h⟩) l = rowTerm X Y i l n := by
  unfold rowTerm; rw [dif_pos h]

/-- The sum over the rows of device `c`. -/
def stretch (X Y : (⟨2, ![8192, 2048]⟩ : Shape).Idx → EReal) (i : Fin 2) (l : Fin 2048) (c : ℕ) : EReal :=
  ∑ n ∈ Finset.range 2048, rowTerm X Y i l (2048 * c + n)

/-- The sum over all rows. -/
theorem whole_eq (X Y : (⟨2, ![8192, 2048]⟩ : Shape).Idx → EReal) (i : Fin 2) (l : Fin 2048) :
    ∑ r : Fin 8192, term i (row X r) (row Y r) l
      = stretch X Y i l 0 + stretch X Y i l 1 + stretch X Y i l 2 + stretch X Y i l 3 := by
  have h : ∑ r : Fin 8192, term i (row X r) (row Y r) l = ∑ n ∈ Finset.range 8192, rowTerm X Y i l n := by
    rw [Finset.sum_range]
    exact Finset.sum_congr rfl fun r _ => rowTerm_of r.isLt
  rw [h, sum_four _ 2048]
  simp only [stretch, Nat.mul_zero, Nat.zero_add]

variable (m : (ℓ : Loc nD τ sig) → Buf (Elt Ideal) ℓ)
variable (X Y : (⟨2, ![8192, 2048]⟩ : Shape).Idx → EReal)

/-- Every device holds its part of the whole arrays. -/
def Held : Prop := ∀ c : Dev nD,
  m ((c.tc : Thread nD τ).loc main_arg0)
    = Layout.blockN ⟨2, ![4096, 2048]⟩ ⟨2, ![8192, 2048]⟩ (Layout.meshBlock [2, 2] ![[0], []] c) X
  ∧ m ((c.tc : Thread nD τ).loc main_arg1)
    = Layout.blockN ⟨2, ![4096, 2048]⟩ ⟨2, ![8192, 2048]⟩ (Layout.meshBlock [2, 2] ![[0], []] c) Y

variable {m X Y}

theorem global_lt (c : Dev nD) (t : Fin grid0.N) (r : Fin 512) : 2048 * c.val + (512 * (grid0.coords t 0).val + r.val) < 8192 := by
  have : c.val < 4 := c.isLt
  have : (grid0.coords t 0).val < 4 := (grid0.coords t 0).isLt
  omega

/-- The rows of a block are rows of the whole arrays. -/
theorem row_xAt (H : Held m X Y) (c : Dev nD) (t : Fin grid0.N) (r : Fin 512) :
    row (xAt m c t) r = row X ⟨_, global_lt c t r⟩ := by
  funext k
  unfold row
  rw [xAt_apply, (H c).1, part_apply]
  refine congrArg (fun n => X (ix2 n k)) (Fin.ext ?_)
  have : c.val < 4 := c.isLt
  show 4096 * (c.val / 2) + (512 * (4 * (c.val % 2) + (grid0.coords t 0).val) + r.val)
    = 2048 * c.val + (512 * (grid0.coords t 0).val + r.val)
  omega

theorem row_yAt (H : Held m X Y) (c : Dev nD) (t : Fin grid0.N) (r : Fin 512) :
    row (yAt m c t) r = row Y ⟨_, global_lt c t r⟩ := by
  funext k
  unfold row
  rw [yAt_apply, (H c).2, part_apply]
  refine congrArg (fun n => Y (ix2 n k)) (Fin.ext ?_)
  have : c.val < 4 := c.isLt
  show 4096 * (c.val / 2) + (512 * (4 * (c.val % 2) + (grid0.coords t 0).val) + r.val)
    = 2048 * c.val + (512 * (grid0.coords t 0).val + r.val)
  omega

/-- One point adds 512 rows. -/
theorem point_eq (H : Held m X Y) (c : Dev nD) (t : Fin grid0.N) (f : FVec Ideal S2x2048 .f32) (i : Fin 2) (l : Fin 2048)
    {o : ℕ} (ho : 512 * (grid0.coords t 0).val = o) :
    accNext (xAt m c t) (yAt m c t) f (ix2 i l)
      = f (ix2 i l) + ∑ n ∈ Finset.range 512, rowTerm X Y i l (2048 * c.val + (o + n)) := by
  subst ho
  rw [accNext_apply, Finset.sum_range]
  refine congrArg (f (ix2 i l) + ·) (Finset.sum_congr rfl fun r _ => ?_)
  rw [row_xAt H, row_yAt H]
  exact rowTerm_of (global_lt c t r)

/-- A device's total is the sum over its rows. -/
theorem total_apply (H : Held m X Y) (c : Dev nD) (i : Fin 2) (l : Fin 2048) :
    total m c (ix2 i l) = stretch X Y i l c.val := by
  unfold total acc3 acc2 acc1 stretch
  rw [point_eq H c t0_3 _ i l (o := 512 + 512 + 512) (by decide), point_eq H c t0_2 _ i l (o := 512 + 512) (by decide),
    point_eq H c t0_1 _ i l (o := 512) (by decide), point_eq H c t0_0 _ i l (o := 0) (by decide), zero_apply, zero_add,
    sum_four (fun n => rowTerm X Y i l (2048 * c.val + n)) 512]
  simp only [Nat.zero_add]

/-- Every device ends with the reference's result. -/
theorem out_eq (H : Held m X Y) (c : Dev nD) : outOf (total m) c = Cert.ReferenceIdeal.Value.result X Y := by
  funext j
  obtain ⟨i, l, rfl⟩ : ∃ (i : Fin 2) (l : Fin 2048), j = ix2 i l := ⟨j 0, j 1, by
    funext a; fin_cases a <;> rfl⟩
  rw [outOf_apply, Cert.ReferenceIdeal.Value.result_apply, whole_eq, total_apply H, total_apply H, total_apply H, total_apply H]
  generalize stretch X Y i l = s
  match c with
  | 0 => rfl
  | 1 => show s 1 + s 0 + s 3 + s 2 = _; ac_rfl
  | 2 => show s 2 + s 3 + s 0 + s 1 = _; ac_rfl
  | 3 => show s 3 + s 2 + s 1 + s 0 = _; ac_rfl

end Cert.Stage
-- ==== Proof.SameText.lean ====
/-
# One text, two names

The kernel as printed and the idealized kernel are the same text. Their tables of bodies choose the body by cases on the
label, so the tables are compared label by label; everything else agrees by unfolding.
-/
module

public import proofs.«01_k».proof.Defs
public import proofs.«01_k».proof.Proof.Gen.Kernel
public import proofs.«01_k».proof.Proof.Gen.KernelIdeal

@[expose] public section

noncomputable section

namespace Cert.SameText

open Idealize.ShloMosaic Idealize.SL.Sem

variable {F : FTy → Type} [FloatOps F]

local instance : Cert.Kernel.Facts := Cert.Kernel.Gen.facts
local instance : Cert.KernelIdeal.Facts := Cert.KernelIdeal.Gen.facts

theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | ⟨n + 1, h⟩, _ => exact absurd h (Nat.not_lt.2 (Nat.le_add_left _ _))

theorem defs_eq : Cert.Kernel.defs (F := F) = Cert.KernelIdeal.defs (F := F) :=
  congrArg (Pipeline.defs Cert.KernelIdeal.pcfgs) bodies_eq

theorem main_eq : Cert.Kernel.main (F := F) = Cert.KernelIdeal.main (F := F) := rfl

/-- What is shown of the idealized kernel's run is shown of the kernel's. -/
theorem transfer (m : (ℓ : Loc Cert.Kernel.nD Cert.Kernel.τ Cert.Kernel.sig) → Buf (Elt F) ℓ) (ρ : Dev Cert.Kernel.nD → PrngReg)
    {Q} (h : θ_run (Cert.KernelIdeal.defs (F := F)) (onTc (τ := Cert.KernelIdeal.τ) (Cert.KernelIdeal.main (F := F))) ⟨m, fun _ => 0, ρ⟩ Q) :
    θ_run (Cert.Kernel.defs (F := F)) (onTc (τ := Cert.Kernel.τ) (Cert.Kernel.main (F := F))) ⟨m, fun _ => 0, ρ⟩ Q := by
  rw [defs_eq, main_eq]
  exact h

end Cert.SameText

end
-- ==== Proof.lean ====
/-
# The claims

Both kernels run and leave their arguments, as the reference does; the idealized kernel is the kernel's own text; and at
exact arithmetic every device ends with the reference's result. The run is proved once, for any float values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Launch
public import proofs.«01_k».proof.Proof.Equation
public import proofs.«01_k».proof.Proof.SameText
public import Idealize.ShloMosaic.Adequacy
public import Idealize.ShloMosaic.Init

@[expose] public section

noncomputable section

namespace Cert.Proof

open Idealize.ShloMosaic Idealize.SL.Sem

/-- The kernel as printed runs and leaves its arguments: its text is the idealized kernel's, read at bits. -/
theorem frame_kernel : Cert.quiescent_Kernel (hKernel := Cert.Kernel.Gen.facts) := fun m ρ _ =>
  Cert.SameText.transfer m ρ ((θ_run Cert.KernelIdeal.defs _ _).mono (fun _ h => ⟨fun c => (h.1 c).1, h.2⟩) (Cert.Stage.run_main (F := Bits) m ρ))

/-- So does the idealized kernel, -/
theorem frame_kernelIdeal : Cert.quiescent_KernelIdeal (hKernelIdeal := Cert.KernelIdeal.Gen.facts) := fun m ρ _ =>
  (θ_run Cert.KernelIdeal.defs _ _).mono (fun _ h => ⟨fun c => (h.1 c).1, h.2⟩) (Cert.Stage.run_main (F := Ideal) m ρ)

/-- and the reference. -/
theorem frame_reference : Cert.quiescent_ReferenceIdeal (hReferenceIdeal := Cert.ReferenceIdeal.Gen.facts) := fun m ρ _ =>
  (θ_run Cert.ReferenceIdeal.defs _ _).mono (fun _ h => ⟨fun c => (h.1 c).2, h.2⟩) (Cert.ReferenceIdeal.Value.run_result m ρ)

/-- Every device of the kernel ends with the reference's result. -/
theorem same_result : Cert.algebraic_KernelIdeal_ReferenceIdeal
    (hKernelIdeal := Cert.KernelIdeal.Gen.facts) (hReferenceIdeal := Cert.ReferenceIdeal.Gen.facts) := fun m ρ m' ρ' _ H =>
  ⟨Cert.ReferenceIdeal.Value.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).2.trans (Cert.Stage.out_eq (fun c => ⟨(H c).1, (H c).2.1⟩) c), (h.1 c).1⟩)
      (Cert.Stage.run_main (F := Ideal) m ρ),
    (θ_run Cert.ReferenceIdeal.defs _ _).mono (fun _ h => h.1 0) (Cert.ReferenceIdeal.Value.run_result m' ρ')⟩

theorem claim : Cert.Claim := ⟨Cert.Kernel.Gen.facts, Cert.KernelIdeal.Gen.facts, Cert.ReferenceIdeal.Gen.facts,
  frame_kernel, frame_kernelIdeal, frame_reference, trivial, same_result⟩

end Cert.Proof

end
